-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x3x28x28 : Shape := ⟨4, ![8192, 3, 28, 28]⟩
abbrev S32x1x5x5 : Shape := ⟨4, ![32, 1, 5, 5]⟩
abbrev S32 : Shape := ⟨1, ![32]⟩
abbrev S64x32x5x5 : Shape := ⟨4, ![64, 32, 5, 5]⟩
abbrev S64 : Shape := ⟨1, ![64]⟩
abbrev S10x64x3x3 : Shape := ⟨4, ![10, 64, 3, 3]⟩
abbrev S10 : Shape := ⟨1, ![10]⟩
abbrev S8192x1x28x28 : Shape := ⟨4, ![8192, 1, 28, 28]⟩
abbrev S8192x28x28 : Shape := ⟨3, ![8192, 28, 28]⟩
abbrev S28x28x8192 : Shape := ⟨3, ![28, 28, 8192]⟩
abbrev S32x25 : Shape := ⟨2, ![32, 25]⟩
abbrev S5x64x5x32 : Shape := ⟨4, ![5, 64, 5, 32]⟩
abbrev S5x64x160 : Shape := ⟨3, ![5, 64, 160]⟩
abbrev S10x64x9 : Shape := ⟨3, ![10, 64, 9]⟩
abbrev S10x9x64 : Shape := ⟨3, ![10, 9, 64]⟩
abbrev S10x576 : Shape := ⟨2, ![10, 576]⟩
abbrev S32x1 : Shape := ⟨2, ![32, 1]⟩
abbrev S64x1 : Shape := ⟨2, ![64, 1]⟩
abbrev S10x1 : Shape := ⟨2, ![10, 1]⟩
abbrev S10x8192 : Shape := ⟨2, ![10, 8192]⟩
abbrev S28x28x128 : Shape := ⟨3, ![28, 28, 128]⟩
abbrev S10x128 : Shape := ⟨2, ![10, 128]⟩
abbrev S38x38x128 : Shape := ⟨3, ![38, 38, 128]⟩
abbrev S11x38x28x128 : Shape := ⟨4, ![11, 38, 28, 128]⟩
abbrev S11x11x128 : Shape := ⟨3, ![11, 11, 128]⟩
abbrev S38x28x128 : Shape := ⟨3, ![38, 28, 128]⟩
abbrev S1x38x28x128 : Shape := ⟨4, ![1, 38, 28, 128]⟩
abbrev S1x28x28x128 : Shape := ⟨4, ![1, 28, 28, 128]⟩
abbrev S1x1x128 : Shape := ⟨3, ![1, 1, 128]⟩
abbrev S128 : Shape := ⟨1, ![128]⟩
abbrev S24x24x128 : Shape := ⟨3, ![24, 24, 128]⟩
abbrev S1x24x24x128 : Shape := ⟨4, ![1, 24, 24, 128]⟩
abbrev S25x24x24x128 : Shape := ⟨4, ![25, 24, 24, 128]⟩
abbrev S25x73728 : Shape := ⟨2, ![25, 73728]⟩
abbrev S32x73728 : Shape := ⟨2, ![32, 73728]⟩
abbrev S32x24x24x128 : Shape := ⟨4, ![32, 24, 24, 128]⟩
abbrev S32x1x1x1 : Shape := ⟨4, ![32, 1, 1, 1]⟩
abbrev S32x12x2x24x128 : Shape := ⟨5, ![32, 12, 2, 24, 128]⟩
abbrev S32x12x24x128 : Shape := ⟨4, ![32, 12, 24, 128]⟩
abbrev S32x12x12x256 : Shape := ⟨4, ![32, 12, 12, 256]⟩
abbrev S32x12x12x128 : Shape := ⟨4, ![32, 12, 12, 128]⟩
abbrev S64x8192 : Shape := ⟨2, ![64, 8192]⟩
abbrev S32x8x8x128 : Shape := ⟨4, ![32, 8, 8, 128]⟩
abbrev S160x8x8x128 : Shape := ⟨4, ![160, 8, 8, 128]⟩
abbrev S160x8192 : Shape := ⟨2, ![160, 8192]⟩
abbrev S1x64x160 : Shape := ⟨3, ![1, 64, 160]⟩
abbrev S64x160 : Shape := ⟨2, ![64, 160]⟩
abbrev S64x8x8x128 : Shape := ⟨4, ![64, 8, 8, 128]⟩
abbrev S64x1x1x1 : Shape := ⟨4, ![64, 1, 1, 1]⟩
abbrev S64x4x2x8x128 : Shape := ⟨5, ![64, 4, 2, 8, 128]⟩
abbrev S64x4x8x128 : Shape := ⟨4, ![64, 4, 8, 128]⟩
abbrev S64x4x4x256 : Shape := ⟨4, ![64, 4, 4, 256]⟩
abbrev S64x4x4x128 : Shape := ⟨4, ![64, 4, 4, 128]⟩
abbrev S64x2x2x128 : Shape := ⟨4, ![64, 2, 2, 128]⟩
abbrev S576x2x2x128 : Shape := ⟨4, ![576, 2, 2, 128]⟩
abbrev S576x512 : Shape := ⟨2, ![576, 512]⟩
abbrev S10x512 : Shape := ⟨2, ![10, 512]⟩
abbrev S10x4x128 : Shape := ⟨3, ![10, 4, 128]⟩
abbrev S1x128 : Shape := ⟨2, ![1, 128]⟩
abbrev S8192x10 : Shape := ⟨2, ![8192, 10]⟩

abbrev nBuf : Space → Nat
  | .hbm => 22
  | .vmem => 12
  | .smem => 0
  | _ => 0

abbrev bufTy : (tb : Table) → Fin (tcTables nBuf tb) → BufTy
  | .hbm, ⟨0, _⟩ => ⟨S8192x3x28x28, .f32⟩
  | .hbm, ⟨1, _⟩ => ⟨S32x1x5x5, .f32⟩
  | .hbm, ⟨2, _⟩ => ⟨S32, .f32⟩
  | .hbm, ⟨3, _⟩ => ⟨S64x32x5x5, .f32⟩
  | .hbm, ⟨4, _⟩ => ⟨S64, .f32⟩
  | .hbm, ⟨5, _⟩ => ⟨S10x64x3x3, .f32⟩
  | .hbm, ⟨6, _⟩ => ⟨S10, .f32⟩
  | .hbm, ⟨7, _⟩ => ⟨S8192x1x28x28, .f32⟩
  | .hbm, ⟨8, _⟩ => ⟨S8192x28x28, .f32⟩
  | .hbm, ⟨9, _⟩ => ⟨S8192x28x28, .bf16⟩
  | .hbm, ⟨10, _⟩ => ⟨S28x28x8192, .bf16⟩
  | .hbm, ⟨11, _⟩ => ⟨S32x25, .f32⟩
  | .hbm, ⟨12, _⟩ => ⟨S5x64x5x32, .f32⟩
  | .hbm, ⟨13, _⟩ => ⟨S5x64x160, .f32⟩
  | .hbm, ⟨14, _⟩ => ⟨S10x64x9, .f32⟩
  | .hbm, ⟨15, _⟩ => ⟨S10x9x64, .f32⟩
  | .hbm, ⟨16, _⟩ => ⟨S10x576, .f32⟩
  | .hbm, ⟨17, _⟩ => ⟨S32x1, .f32⟩
  | .hbm, ⟨18, _⟩ => ⟨S64x1, .f32⟩
  | .hbm, ⟨19, _⟩ => ⟨S10x1, .f32⟩
  | .hbm, ⟨20, _⟩ => ⟨S10x8192, .f32⟩
  | .hbm, ⟨21, _⟩ => ⟨S8192x10, .f32⟩
  | .local _ .vmem, ⟨0, _⟩ => ⟨S28x28x128, .bf16⟩
  | .local _ .vmem, ⟨1, _⟩ => ⟨S28x28x128, .bf16⟩
  | .local _ .vmem, ⟨2, _⟩ => ⟨S32x25, .f32⟩
  | .local _ .vmem, ⟨3, _⟩ => ⟨S32x1, .f32⟩
  | .local _ .vmem, ⟨4, _⟩ => ⟨S5x64x160, .f32⟩
  | .local _ .vmem, ⟨5, _⟩ => ⟨S64x1, .f32⟩
  | .local _ .vmem, ⟨6, _⟩ => ⟨S10x576, .f32⟩
  | .local _ .vmem, ⟨7, _⟩ => ⟨S10x1, .f32⟩
  | .local _ .vmem, ⟨8, _⟩ => ⟨S10x128, .f32⟩
  | .local _ .vmem, ⟨9, _⟩ => ⟨S10x128, .f32⟩
  | .local _ .vmem, ⟨10, _⟩ => ⟨S38x38x128, .f32⟩
  | .local _ .vmem, ⟨11, _⟩ => ⟨S11x38x28x128, .f32⟩
  | _, _ => ⟨S8192x3x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S28x28x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x25 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x64x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x576 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8192x3x28x28 : Shape := ⟨4, ![8192, 3, 28, 28]⟩
abbrev S32x1x5x5 : Shape := ⟨4, ![32, 1, 5, 5]⟩
abbrev S32 : Shape := ⟨1, ![32]⟩
abbrev S64x32x5x5 : Shape := ⟨4, ![64, 32, 5, 5]⟩
abbrev S64 : Shape := ⟨1, ![64]⟩
abbrev S10x64x3x3 : Shape := ⟨4, ![10, 64, 3, 3]⟩
abbrev S10 : Shape := ⟨1, ![10]⟩
abbrev S8192x1x28x28 : Shape := ⟨4, ![8192, 1, 28, 28]⟩
abbrev S8192x28x28 : Shape := ⟨3, ![8192, 28, 28]⟩
abbrev S8192x11x11 : Shape := ⟨3, ![8192, 11, 11]⟩
abbrev S_ : Shape := ⟨0, ![]⟩
abbrev S8192x38x38 : Shape := ⟨3, ![8192, 38, 38]⟩
abbrev S28 : Shape := ⟨1, ![28]⟩
abbrev S28x1 : Shape := ⟨2, ![28, 1]⟩
abbrev S11 : Shape := ⟨1, ![11]⟩
abbrev S1x11 : Shape := ⟨2, ![1, 11]⟩
abbrev S28x11 : Shape := ⟨2, ![28, 11]⟩
abbrev S28x11x1 : Shape := ⟨3, ![28, 11, 1]⟩
abbrev S8192x38x28x11 : Shape := ⟨4, ![8192, 38, 28, 11]⟩
abbrev S8192x28x11x28x11 : Shape := ⟨5, ![8192, 28, 11, 28, 11]⟩
abbrev S24 : Shape := ⟨1, ![24]⟩
abbrev S24x1 : Shape := ⟨2, ![24, 1]⟩
abbrev S5 : Shape := ⟨1, ![5]⟩
abbrev S1x5 : Shape := ⟨2, ![1, 5]⟩
abbrev S24x5 : Shape := ⟨2, ![24, 5]⟩
abbrev S24x5x1 : Shape := ⟨3, ![24, 5, 1]⟩
abbrev S8192x1x28x24x5 : Shape := ⟨5, ![8192, 1, 28, 24, 5]⟩
abbrev S8192x1x24x5x24x5 : Shape := ⟨6, ![8192, 1, 24, 5, 24, 5]⟩
abbrev S32x8192x24x24 : Shape := ⟨4, ![32, 8192, 24, 24]⟩
abbrev S8192x32x24x24 : Shape := ⟨4, ![8192, 32, 24, 24]⟩
abbrev S1x32x1x1 : Shape := ⟨4, ![1, 32, 1, 1]⟩
abbrev S8192x32x12x12 : Shape := ⟨4, ![8192, 32, 12, 12]⟩
abbrev S8 : Shape := ⟨1, ![8]⟩
abbrev S8x1 : Shape := ⟨2, ![8, 1]⟩
abbrev S8x5 : Shape := ⟨2, ![8, 5]⟩
abbrev S8x5x1 : Shape := ⟨3, ![8, 5, 1]⟩
abbrev S8192x32x12x8x5 : Shape := ⟨5, ![8192, 32, 12, 8, 5]⟩
abbrev S8192x32x8x5x8x5 : Shape := ⟨6, ![8192, 32, 8, 5, 8, 5]⟩
abbrev S64x8192x8x8 : Shape := ⟨4, ![64, 8192, 8, 8]⟩
abbrev S8192x64x8x8 : Shape := ⟨4, ![8192, 64, 8, 8]⟩
abbrev S1x64x1x1 : Shape := ⟨4, ![1, 64, 1, 1]⟩
abbrev S8192x64x4x4 : Shape := ⟨4, ![8192, 64, 4, 4]⟩
abbrev S2 : Shape := ⟨1, ![2]⟩
abbrev S2x1 : Shape := ⟨2, ![2, 1]⟩
abbrev S3 : Shape := ⟨1, ![3]⟩
abbrev S1x3 : Shape := ⟨2, ![1, 3]⟩
abbrev S2x3 : Shape := ⟨2, ![2, 3]⟩
abbrev S2x3x1 : Shape := ⟨3, ![2, 3, 1]⟩
abbrev S8192x64x4x2x3 : Shape := ⟨5, ![8192, 64, 4, 2, 3]⟩
abbrev S8192x64x2x3x2x3 : Shape := ⟨6, ![8192, 64, 2, 3, 2, 3]⟩
abbrev S10x8192x2x2 : Shape := ⟨4, ![10, 8192, 2, 2]⟩
abbrev S8192x10x2x2 : Shape := ⟨4, ![8192, 10, 2, 2]⟩
abbrev S1x10x1x1 : Shape := ⟨4, ![1, 10, 1, 1]⟩
abbrev S8192x10 : Shape := ⟨2, ![8192, 10]⟩
abbrev S8192 : Shape := ⟨1, ![8192]⟩
abbrev S8192x1 : Shape := ⟨2, ![8192, 1]⟩

abbrev nBuf : Space → Nat
  | .hbm => 137
  | .vmem => 0
  | .smem => 0
  | _ => 0

abbrev hbmTy0_0 (i : Nat) : BufTy := match i % 128 with
  | 0 => ⟨S8192x3x28x28, .f32⟩
  | 1 => ⟨S32x1x5x5, .f32⟩
  | 2 => ⟨S32, .f32⟩
  | 3 => ⟨S64x32x5x5, .f32⟩
  | 4 => ⟨S64, .f32⟩
  | 5 => ⟨S10x64x3x3, .f32⟩
  | 6 => ⟨S10, .f32⟩
  | 7 => ⟨S8192x1x28x28, .f32⟩
  | 8 => ⟨S8192x28x28, .f32⟩
  | 9 => ⟨S8192x11x11, .f32⟩
  | 10 => ⟨S_, .i32⟩
  | 11 => ⟨S_, .f32⟩
  | 12 => ⟨S8192x38x38, .f32⟩
  | 13 => ⟨S28, .i32⟩
  | 14 => ⟨S28x1, .i32⟩
  | 15 => ⟨S11, .i32⟩
  | 16 => ⟨S1x11, .i32⟩
  | 17 => ⟨S28x11, .i32⟩
  | 18 => ⟨S28x11, .i32⟩
  | 19 => ⟨S28x11, .i32⟩
  | 20 => ⟨S28, .i32⟩
  | 21 => ⟨S28x1, .i32⟩
  | 22 => ⟨S11, .i32⟩
  | 23 => ⟨S1x11, .i32⟩
  | 24 => ⟨S28x11, .i32⟩
  | 25 => ⟨S28x11, .i32⟩
  | 26 => ⟨S28x11, .i32⟩
  | 27 => ⟨S28x11x1, .i32⟩
  | 28 => ⟨S8192x38x28x11, .f32⟩
  | 29 => ⟨S28x11x1, .i32⟩
  | 30 => ⟨S8192x28x11x28x11, .f32⟩
  | 31 => ⟨S8192x28x28, .f32⟩
  | 32 => ⟨S8192x1x28x28, .f32⟩
  | 33 => ⟨S24, .i32⟩
  | 34 => ⟨S24x1, .i32⟩
  | 35 => ⟨S5, .i32⟩
  | 36 => ⟨S1x5, .i32⟩
  | 37 => ⟨S24x5, .i32⟩
  | 38 => ⟨S24x5, .i32⟩
  | 39 => ⟨S24x5, .i32⟩
  | 40 => ⟨S24, .i32⟩
  | 41 => ⟨S24x1, .i32⟩
  | 42 => ⟨S5, .i32⟩
  | 43 => ⟨S1x5, .i32⟩
  | 44 => ⟨S24x5, .i32⟩
  | 45 => ⟨S24x5, .i32⟩
  | 46 => ⟨S24x5, .i32⟩
  | 47 => ⟨S24x5x1, .i32⟩
  | 48 => ⟨S8192x1x28x24x5, .f32⟩
  | 49 => ⟨S24x5x1, .i32⟩
  | 50 => ⟨S8192x1x24x5x24x5, .f32⟩
  | 51 => ⟨S32x8192x24x24, .f32⟩
  | 52 => ⟨S8192x32x24x24, .f32⟩
  | 53 => ⟨S1x32x1x1, .f32⟩
  | 54 => ⟨S8192x32x24x24, .f32⟩
  | 55 => ⟨S8192x32x24x24, .f32⟩
  | 56 => ⟨S_, .f32⟩
  | 57 => ⟨S8192x32x24x24, .f32⟩
  | 58 => ⟨S8192x32x24x24, .f32⟩
  | 59 => ⟨S_, .f32⟩
  | 60 => ⟨S_, .f32⟩
  | 61 => ⟨S8192x32x12x12, .f32⟩
  | 62 => ⟨S8, .i32⟩
  | 63 => ⟨S8x1, .i32⟩
  | 64 => ⟨S5, .i32⟩
  | 65 => ⟨S1x5, .i32⟩
  | 66 => ⟨S8x5, .i32⟩
  | 67 => ⟨S8x5, .i32⟩
  | 68 => ⟨S8x5, .i32⟩
  | 69 => ⟨S8, .i32⟩
  | 70 => ⟨S8x1, .i32⟩
  | 71 => ⟨S5, .i32⟩
  | 72 => ⟨S1x5, .i32⟩
  | 73 => ⟨S8x5, .i32⟩
  | 74 => ⟨S8x5, .i32⟩
  | 75 => ⟨S8x5, .i32⟩
  | 76 => ⟨S8x5x1, .i32⟩
  | 77 => ⟨S8192x32x12x8x5, .f32⟩
  | 78 => ⟨S8x5x1, .i32⟩
  | 79 => ⟨S8192x32x8x5x8x5, .f32⟩
  | 80 => ⟨S64x8192x8x8, .f32⟩
  | 81 => ⟨S8192x64x8x8, .f32⟩
  | 82 => ⟨S1x64x1x1, .f32⟩
  | 83 => ⟨S8192x64x8x8, .f32⟩
  | 84 => ⟨S8192x64x8x8, .f32⟩
  | 85 => ⟨S_, .f32⟩
  | 86 => ⟨S8192x64x8x8, .f32⟩
  | 87 => ⟨S8192x64x8x8, .f32⟩
  | 88 => ⟨S_, .f32⟩
  | 89 => ⟨S_, .f32⟩
  | 90 => ⟨S8192x64x4x4, .f32⟩
  | 91 => ⟨S2, .i32⟩
  | 92 => ⟨S2x1, .i32⟩
  | 93 => ⟨S3, .i32⟩
  | 94 => ⟨S1x3, .i32⟩
  | 95 => ⟨S2x3, .i32⟩
  | 96 => ⟨S2x3, .i32⟩
  | 97 => ⟨S2x3, .i32⟩
  | 98 => ⟨S2, .i32⟩
  | 99 => ⟨S2x1, .i32⟩
  | 100 => ⟨S3, .i32⟩
  | 101 => ⟨S1x3, .i32⟩
  | 102 => ⟨S2x3, .i32⟩
  | 103 => ⟨S2x3, .i32⟩
  | 104 => ⟨S2x3, .i32⟩
  | 105 => ⟨S2x3x1, .i32⟩
  | 106 => ⟨S8192x64x4x2x3, .f32⟩
  | 107 => ⟨S2x3x1, .i32⟩
  | 108 => ⟨S8192x64x2x3x2x3, .f32⟩
  | 109 => ⟨S10x8192x2x2, .f32⟩
  | 110 => ⟨S8192x10x2x2, .f32⟩
  | 111 => ⟨S1x10x1x1, .f32⟩
  | 112 => ⟨S8192x10x2x2, .f32⟩
  | 113 => ⟨S8192x10x2x2, .f32⟩
  | 114 => ⟨S_, .f32⟩
  | 115 => ⟨S8192x10x2x2, .f32⟩
  | 116 => ⟨S8192x10x2x2, .f32⟩
  | 117 => ⟨S_, .f32⟩
  | 118 => ⟨S8192x10, .f32⟩
  | 119 => ⟨S_, .f32⟩
  | 120 => ⟨S8192x10, .f32⟩
  | 121 => ⟨S8192x10, .f32⟩
  | 122 => ⟨S_, .f32⟩
  | 123 => ⟨S8192, .f32⟩
  | 124 => ⟨S_, .f32⟩
  | 125 => ⟨S8192, .f32⟩
  | 126 => ⟨S8192, .f32⟩
  | 127 => ⟨S8192x1, .f32⟩
  | _ => ⟨S8192x3x28x28, .f32⟩

abbrev hbmTy0_1 (i : Nat) : BufTy := match i % 128 with
  | 0 => ⟨S8192x10, .f32⟩
  | 1 => ⟨S8192x10, .f32⟩
  | 2 => ⟨S8192x10, .f32⟩
  | 3 => ⟨S_, .f32⟩
  | 4 => ⟨S8192, .f32⟩
  | 5 => ⟨S8192x1, .f32⟩
  | 6 => ⟨S8192x1, .f32⟩
  | 7 => ⟨S8192x10, .f32⟩
  | 8 => ⟨S8192x10, .f32⟩
  | _ => ⟨S8192x3x28x28, .f32⟩

abbrev hbmTy (i : Nat) : BufTy := match i / 128 with
  | 0 => hbmTy0_0 i
  | 1 => hbmTy0_1 i
  | _ => ⟨S8192x3x28x28, .f32⟩

abbrev bufTy : (tb : Table) → Fin (tcTables nBuf tb) → BufTy
  | .hbm, ⟨i, _⟩ => hbmTy i
  | _, _ => ⟨S8192x3x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call1_v0 : Ref sig .tc := ⟨.hbm, 27, rfl⟩
abbrev main_v18 : Ref sig .tc := ⟨.hbm, 28, rfl⟩
abbrev main_call2_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call3_v0 : Ref sig .tc := ⟨.hbm, 47, rfl⟩
abbrev main_v36 : Ref sig .tc := ⟨.hbm, 48, rfl⟩
abbrev main_call4_v0 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_call5_cst : Ref sig .tc := ⟨.hbm, 56, rfl⟩
abbrev main_call5_v0 : Ref sig .tc := ⟨.hbm, 57, rfl⟩
abbrev main_v43 : Ref sig .tc := ⟨.hbm, 58, rfl⟩
abbrev main_cst : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_call6_v0 : Ref sig .tc := ⟨.hbm, 76, rfl⟩
abbrev main_v60 : Ref sig .tc := ⟨.hbm, 77, rfl⟩
abbrev main_call7_v0 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_call8_cst : Ref sig .tc := ⟨.hbm, 85, rfl⟩
abbrev main_call8_v0 : Ref sig .tc := ⟨.hbm, 86, rfl⟩
abbrev main_v67 : Ref sig .tc := ⟨.hbm, 87, rfl⟩
abbrev main_cst_0 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_call9_v0 : Ref sig .tc := ⟨.hbm, 105, rfl⟩
abbrev main_v84 : Ref sig .tc := ⟨.hbm, 106, rfl⟩
abbrev main_call10_v0 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_call11_cst : Ref sig .tc := ⟨.hbm, 114, rfl⟩
abbrev main_call11_v0 : Ref sig .tc := ⟨.hbm, 115, rfl⟩
abbrev main_v91 : Ref sig .tc := ⟨.hbm, 116, rfl⟩
abbrev main_cst_1 : Ref sig .tc := ⟨.hbm, 117, rfl⟩
abbrev main_v92 : Ref sig .tc := ⟨.hbm, 118, rfl⟩
abbrev main_cst_2 : Ref sig .tc := ⟨.hbm, 119, rfl⟩
abbrev main_v93 : Ref sig .tc := ⟨.hbm, 120, rfl⟩
abbrev main_v94 : Ref sig .tc := ⟨.hbm, 121, rfl⟩
abbrev main_call12_cst : Ref sig .tc := ⟨.hbm, 122, rfl⟩
abbrev main_call12_v0 : Ref sig .tc := ⟨.hbm, 123, rfl⟩
abbrev main_call12_cst_0 : Ref sig .tc := ⟨.hbm, 124, rfl⟩
abbrev main_call12_v1 : Ref sig .tc := ⟨.hbm, 125, rfl⟩
abbrev main_call12_v2 : Ref sig .tc := ⟨.hbm, 126, rfl⟩
abbrev main_call12_v3 : Ref sig .tc := ⟨.hbm, 127, rfl⟩
abbrev main_call12_v4 : Ref sig .tc := ⟨.hbm, 128, rfl⟩
abbrev main_call12_v5 : Ref sig .tc := ⟨.hbm, 129, rfl⟩
abbrev main_call12_v6 : Ref sig .tc := ⟨.hbm, 130, rfl⟩
abbrev main_call12_cst_1 : Ref sig .tc := ⟨.hbm, 131, rfl⟩
abbrev main_call12_v7 : Ref sig .tc := ⟨.hbm, 132, rfl⟩
abbrev main_call12_v8 : Ref sig .tc := ⟨.hbm, 133, rfl⟩
abbrev main_call12_v9 : Ref sig .tc := ⟨.hbm, 134, rfl⟩
abbrev main_call12_v10 : Ref sig .tc := ⟨.hbm, 135, rfl⟩
abbrev main_v95 : Ref sig .tc := ⟨.hbm, 136, rfl⟩

abbrev nD : Nat := 1
abbrev τ : Topo := Topo.v7x

variable {F : FTy → Type} [FloatOps F]
-- ==== Proof.Spec.lean ====
module
public import Idealize.ShloMosaic.PureOps.Ideal
@[expose] public section
noncomputable section
/-!
The network as mathematics on extended reals, one sample at a time. A feature map is a function of its channel and of two
natural-number coordinates; an input image is a function of two coordinates below 28.
-/
namespace Cert.Spec
open Idealize.ShloMosaic

/-- An image surrounded by zeros, 5 on each side: position `(i, j)` of the padded image. -/
def pad (X : Fin 28 → Fin 28 → EReal) (i j : ℕ) : EReal :=
  if h : (5 ≤ i ∧ i < 33) ∧ (5 ≤ j ∧ j < 33) then X ⟨i - 5, by omega⟩ ⟨j - 5, by omega⟩ else 0

/-- The correlation of the padded image with the image's own 11 x 11 centre crop. -/
def cor (X : Fin 28 → Fin 28 → EReal) (i j : ℕ) : EReal :=
  ∑ u : Fin 11, ∑ v : Fin 11, pad X (i + u) (j + v) * X ⟨u + 8, by omega⟩ ⟨v + 8, by omega⟩

/-- A valid convolution (no flip) with a `k x k` filter, plus its bias. -/
def conv {O C k : ℕ} (W : Fin O → Fin C → Fin k → Fin k → EReal) (b : Fin O → EReal) (A : Fin C → ℕ → ℕ → EReal)
    (o : Fin O) (i j : ℕ) : EReal :=
  (∑ c : Fin C, ∑ u : Fin k, ∑ v : Fin k, W o c u v * A c (i + u) (j + v)) + b o

/-- The positive part, element by element. -/
def relu {C : ℕ} (A : Fin C → ℕ → ℕ → EReal) (c : Fin C) (i j : ℕ) : EReal := max (A c i j) 0

/-- The maximum of each 2 x 2 square. -/
def pool {C : ℕ} (A : Fin C → ℕ → ℕ → EReal) (c : Fin C) (i j : ℕ) : EReal :=
  max (max (A c (2 * i) (2 * j)) (A c (2 * i + 1) (2 * j))) (max (A c (2 * i) (2 * j + 1)) (A c (2 * i + 1) (2 * j + 1)))

/-- The mean of the four positions of a 2 x 2 map. -/
def mean4 {C : ℕ} (A : Fin C → ℕ → ℕ → EReal) (c : Fin C) : EReal :=
  Ideal.div (∑ i : Fin 2, ∑ j : Fin 2, A c i j) (Ideal.ofBits .f32 0x40800000#32)

/-- The greatest of a family's values (the bottom element of an empty one). -/
def top {n : ℕ} (g : Fin n → EReal) : EReal := Finset.univ.fold max ⊥ g

/-- The logarithm of the softmax. -/
def logSoftmax {n : ℕ} (g : Fin n → EReal) (k : Fin n) : EReal :=
  (g k - top g) - Ideal.log (∑ q : Fin n, Ideal.exp (g q - top g))

/-- The whole network at one sample `X`: ten log-probabilities. -/
def net (X : Fin 28 → Fin 28 → EReal) (W1 : Fin 32 → Fin 1 → Fin 5 → Fin 5 → EReal) (b1 : Fin 32 → EReal)
    (W2 : Fin 64 → Fin 32 → Fin 5 → Fin 5 → EReal) (b2 : Fin 64 → EReal)
    (W3 : Fin 10 → Fin 64 → Fin 3 → Fin 3 → EReal) (b3 : Fin 10 → EReal) : Fin 10 → EReal :=
  logSoftmax (mean4 (relu (conv W3 b3 (pool (relu (conv W2 b2 (pool (relu (conv W1 b1 fun _ => cor X)))))))))

/-- The word of −∞ reads as the bottom element. -/
theorem negInf : Ideal.ofBits .f32 0xFF800000#32 = (⊥ : EReal) := by simp [Ideal.ofBits, Ideal.ieee]

/-- A sum over `m * n` numbers read as quotient and remainder by `n`. -/
theorem sum_pairs {m n : ℕ} (f : Fin m → Fin n → EReal) : (∑ k : Fin (m * n), f k.divNat k.modNat) = ∑ a : Fin m, ∑ b : Fin n, f a b := by
  rw [← Fintype.sum_prod_type', ← finProdFinEquiv.symm.sum_comp]
  rfl

end Cert.Spec

end
-- ==== Proof.Correlation.lean ====
module
public import proofs.«01_k».proof.Proof.Gen.KernelIdeal.Frame
public import proofs.«01_k».proof.Proof.Spec
public import Idealize.ShloMosaic.Lib.Pointwise
public import Idealize.ShloMosaic.Lib.Pipeline.ValueKit
@[expose] public section
noncomputable section
/-!
The correlation of one block of 128 samples. The kernel pads the block into one scratch array, copies the padded block
into eleven planes shifted by 0 to 10 columns, and adds up 121 products of a plane's window with a template element.
`cor_apply`: at every position and lane the result is the specification's correlation of that lane's sample.
-/
namespace Cert.KernelIdeal.Block
open Idealize.ShloMosaic Idealize.ShloMosaic.TcCoe
open Cert.KernelIdeal Cert.KernelIdeal.Gen

variable {F : FTy → Type} [FloatOps F]

/-- The corner of a plane's window of 28 x 28 taps at row offset `u` of plane `v` fits the planes' buffer. -/
theorem tap_inb (v u : ℕ) (hv : v < 11) (hu : u < 11) : ∀ a, (![v, u, 0, 0] : Fin 4 → ℕ) a + S1x28x28x128.size a ≤ S11x38x28x128.size a := by
  intro a
  match a with
  | ⟨0, _⟩ => show v + 1 ≤ 11; omega
  | ⟨1, _⟩ => show u + 28 ≤ 38; omega
  | ⟨2, _⟩ => show 0 + 28 ≤ 28; omega
  | ⟨3, _⟩ => show 0 + 128 ≤ 128; omega

/-- Element `(u, v)` of every lane is a slice of the template. -/
theorem tmpl_slices (u v : ℕ) (hu : u < 11) (hv : v < 11) : S11x11x128.Slices ![u, v, 0] S1x1x128 := by
  refine ⟨rfl, fun a => ?_⟩
  match a with
  | ⟨0, _⟩ => show u + 1 ≤ 11; omega
  | ⟨1, _⟩ => show v + 1 ≤ 11; omega
  | ⟨2, _⟩ => show 0 + 128 ≤ 128; omega

/-- Template element `(u, v)` of every lane, spread over the 28 x 28 positions. -/
def tmplTap (T : FVec F S11x11x128 .f32) (u v : ℕ) (hu : u < 11) (hv : v < 11) : FVec F S28x28x128 .f32 :=
  broadcastTo S28x28x128 (shapeCast S1x1x128 (shapeCast S128
    (extractStridedSlice S1x1x128 ![u, v, 0] T (tmpl_slices u v hu hv)) shapeCasts_S1x1x128_S128) shapeCasts_S128_S1x1x128)
    broadcasts_S1x1x128_S28x28x128

/-- The window of the planes' buffer at plane `v`, rows from `u`. -/
def planeTap (X : ∀ v u : ℕ, v < 11 → u < 11 → FVec F S1x28x28x128 .f32) (v u : ℕ) (hv : v < 11) (hu : u < 11) : FVec F S28x28x128 .f32 :=
  shapeCast S28x28x128 (X v u hv hu) shapeCasts_S1x28x28x128_S28x28x128

/-- The first `n` products of the correlation added up from zero, `v` (the column offset) outermost. -/
def corSum (X : ∀ v u : ℕ, v < 11 → u < 11 → FVec F S1x28x28x128 .f32) (T : FVec F S11x11x128 .f32) : (n : ℕ) → n ≤ 121 → FVec F S28x28x128 .f32
  | 0, _ => broadcast S28x28x128 (Scalar.ofBits .f32 0x00000000#32)
  | n + 1, h => addf (corSum X T n (by omega))
      (mulf (planeTap X (n / 11) (n % 11) (by omega) (by omega)) (tmplTap T (n % 11) (n / 11) (by omega) (by omega)))

set_option maxRecDepth 65536 in
/-- What the body adds up is `corSum` of its loads. -/
theorem cor_eq (c : Dev nD) (arg1 : Memref sig .tc .vmem S28x28x128 .bf16) (harg1 : arg1.IsWhole)
    (arg9 : Memref sig .tc .vmem S38x38x128 .f32) (arg10 : Memref sig .tc .vmem S11x38x28x128 .f32) (x0 : Vec F S28x28x128 .bf16) :
    kernelRun0_A.sl.r_72 c arg1 harg1 arg9 arg10 x0
      = corSum (fun v u hv hu => arg10.view.readCov (kernelRun0_A.sl.HS1_11 c arg1 harg1 arg9 x0) (Rect.unit (s := S11x38x28x128) ![v, u, 0, 0] S1x28x28x128.size (tap_inb v u hv hu)).toLoadRect)
          (kernelRun0_A.sl.v10 c arg1 harg1 arg9 x0) 121 le_rfl := by
  rfl

/-- The padded scratch after its two stores: the block's sample in lane `y 2`, surrounded by zeros. -/
theorem pieces_pad (c : Dev nD) (arg1 : Memref sig .tc .vmem S28x28x128 .bf16) (harg1 : arg1.IsWhole) (x0 : FVec Ideal S28x28x128 .bf16) (y : S38x38x128.Idx) :
    View.canon (kernelRun0_A.sl.HS0_2 (F := Ideal) c arg1 harg1 x0) y = Spec.pad (fun a b => x0 (ix3 a b (y 2))) (y 0) (y 1) := by
  unfold kernelRun0_A.sl.HS0_2
  simp only [View.readAt_eq_ld, Memref.IsWhole.read_unread]
  unfold Spec.pad
  split
  · rename_i h
    obtain ⟨⟨h0, h1⟩, h2, h3⟩ := h
    have hy : y = (Rect.unit (s := S38x38x128) ![5, 5, 0] S28x28x128.size inb_S38x38x128_S28x28x128_5_5_0).emb
        (ix3 (⟨y 0 - 5, by omega⟩ : Fin 28) (⟨y 1 - 5, by omega⟩ : Fin 28) (y 2) : S28x28x128.Idx) := by
      funext a
      apply Fin.ext
      match a with
      | ⟨0, _⟩ => show (y 0 : ℕ) = 5 + 1 * (y 0 - 5); omega
      | ⟨1, _⟩ => show (y 1 : ℕ) = 5 + 1 * (y 1 - 5); omega
      | ⟨2, _⟩ => show (y 2 : ℕ) = 0 + 1 * (y 2); omega
    conv_lhs => rw [hy]
    rw [View.canon_cons_emb]
    unfold k0_pay2
    rw [View.ld_unit_lit]
    · pointwise
    · intro a; match a with | ⟨0, _⟩ => rfl | ⟨1, _⟩ => rfl | ⟨2, _⟩ => rfl
  · rename_i h
    rw [View.canon_cons_of_not_mem]
    · rw [View.canon_cons_unit_lit]
      · unfold k0_pay1
        pointwise
      · intro a; match a with | ⟨0, _⟩ => rfl | ⟨1, _⟩ => rfl | ⟨2, _⟩ => rfl
    · dsimp only
      rw [Rect.mem_set_unit]
      intro hm
      have h0 : 5 ≤ (y 0 : ℕ) ∧ (y 0 : ℕ) < 5 + 28 := hm 0
      have h1 : 5 ≤ (y 1 : ℕ) ∧ (y 1 : ℕ) < 5 + 28 := hm 1
      exact h ⟨⟨h0.1, by omega⟩, h1.1, by omega⟩

/-- The spread template element at a position is the element itself. -/
theorem tap_apply (T : FVec Ideal S11x11x128 .f32) (u v : ℕ) (hu : u < 11) (hv : v < 11) (i j : Fin 28) (l : Fin 128) :
    tmplTap T u v hu hv (ix3 i j l) = T (ix3 ⟨u, hu⟩ ⟨v, hv⟩ l) := by
  unfold tmplTap
  pointwise

/-- A loaded window at a position. -/
theorem plane_apply (X : ∀ v u : ℕ, v < 11 → u < 11 → FVec Ideal S1x28x28x128 .f32) (u v : ℕ) (hu : u < 11) (hv : v < 11) (i j : Fin 28) (l : Fin 128) :
    planeTap X v u hv hu (ix3 i j l) = X v u hv hu (ix4 0 i j l) := by
  unfold planeTap
  pointwise

/-- `corSum` at a position: the sum of its products there. -/
theorem corSum_apply (X : ∀ v u : ℕ, v < 11 → u < 11 → FVec Ideal S1x28x28x128 .f32) (T : FVec Ideal S11x11x128 .f32)
    (i j : Fin 28) (l : Fin 128) (f : Fin 11 → Fin 11 → EReal)
    (hf : ∀ (v u : ℕ) (hv : v < 11) (hu : u < 11), X v u hv hu (ix4 0 i j l) * T (ix3 ⟨u, hu⟩ ⟨v, hv⟩ l) = f ⟨v, hv⟩ ⟨u, hu⟩) :
    ∀ (n : ℕ) (h : n ≤ 121), corSum X T n h (ix3 i j l) = ∑ k : Fin n, f ⟨k / 11, by omega⟩ ⟨k % 11, by omega⟩
  | 0, _ => by
    unfold corSum
    pointwise
    simp
  | n + 1, h => by
    rw [Fin.sum_univ_castSucc]
    unfold corSum
    rw [show addf (corSum X T n (by omega)) (mulf (planeTap X (n / 11) (n % 11) (by omega) (by omega)) (tmplTap T (n % 11) (n / 11) (by omega) (by omega))) (ix3 i j l)
      = corSum X T n (by omega) (ix3 i j l) + (planeTap X (n / 11) (n % 11) (by omega) (by omega) (ix3 i j l) * (tmplTap T (n % 11) (n / 11) (by omega) (by omega)) (ix3 i j l)) from rfl]
    rw [corSum_apply X T i j l f hf n (by omega), tap_apply, plane_apply, hf]
    rfl

/-- Padded images agree at equal lanes and positions. -/
theorem pad_congr {x0 : FVec Ideal S28x28x128 .bf16} {l l' : Fin 128} {i i' j j' : ℕ} (hl : (l : ℕ) = l') (hi : i = i') (hj : j = j') :
    Spec.pad (fun a b => x0 (ix3 a b l)) i j = Spec.pad (fun a b => x0 (ix3 a b l')) i' j' := by
  rw [Fin.ext hl, hi, hj]

/-- The store of plane `n`: the padded scratch from column `n`. -/
def planePiece (c : Dev nD) (arg1 : Memref sig .tc .vmem S28x28x128 .bf16) (harg1 : arg1.IsWhole) (arg9 : Memref sig .tc .vmem S38x38x128 .f32)
    (x0 : FVec Ideal S28x28x128 .bf16) (n : ℕ) (h : n < 11) : View.Piece (Elt Ideal) S11x38x28x128 .f32 :=
  ⟨Rect.unit (s := S11x38x28x128) ![n, 0, 0, 0] S1x38x28x128.size (by
      intro a
      match a with
      | ⟨0, _⟩ => show n + 1 ≤ 11; omega
      | ⟨1, _⟩ => show 0 + 38 ≤ 38; omega
      | ⟨2, _⟩ => show 0 + 28 ≤ 28; omega
      | ⟨3, _⟩ => show 0 + 128 ≤ 128; omega),
    shapeCast S1x38x28x128 (arg9.view.readCov (kernelRun0_A.sl.HS0_2 c arg1 harg1 x0) (Rect.unit (s := S38x38x128) ![0, n, 0] S38x28x128.size (by
      intro a
      match a with
      | ⟨0, _⟩ => show 0 + 38 ≤ 38; omega
      | ⟨1, _⟩ => show n + 28 ≤ 38; omega
      | ⟨2, _⟩ => show 0 + 128 ≤ 128; omega)).toLoadRect) shapeCasts_S38x28x128_S1x38x28x128⟩

/-- The eleven stores of the planes, the last one first. -/
theorem pieces_eq (c : Dev nD) (arg1 : Memref sig .tc .vmem S28x28x128 .bf16) (harg1 : arg1.IsWhole) (arg9 : Memref sig .tc .vmem S38x38x128 .f32)
    (x0 : FVec Ideal S28x28x128 .bf16) :
    kernelRun0_A.sl.HS1_11 c arg1 harg1 arg9 x0 = List.ofFn fun k : Fin 11 => planePiece c arg1 harg1 arg9 x0 (10 - k) (by omega) := rfl

/-- The planes' scratch after its eleven stores: plane `v` is the padded image read from column `v`. -/
theorem pieces_planes (c : Dev nD) (arg1 : Memref sig .tc .vmem S28x28x128 .bf16) (harg1 : arg1.IsWhole) (arg9 : Memref sig .tc .vmem S38x38x128 .f32)
    (x0 : FVec Ideal S28x28x128 .bf16) (y : S11x38x28x128.Idx) :
    View.canon (kernelRun0_A.sl.HS1_11 (F := Ideal) c arg1 harg1 arg9 x0) y = Spec.pad (fun a b => x0 (ix3 a b (y 3))) (y 1) (y 2 + y 0) := by
  rw [pieces_eq]
  refine View.canon_apply_of_pieces (Val := Elt Ideal) (e := .f32) (fun y : S11x38x28x128.Idx => Spec.pad (fun a b => x0 (ix3 a b (y 3))) (y 1) (y 2 + y 0)) _ ?_ y ?_
  · intro p hp x
    obtain ⟨k, rfl⟩ := (List.mem_ofFn' _ _).mp hp
    have hx0 : (x 0 : ℕ) = 0 := by have := (x 0).isLt; exact Nat.lt_one_iff.mp this
    unfold planePiece
    dsimp only
    refine (shapeCast_apply _ _ x (ix3 (x 1) (x 2) (x 3) : S38x28x128.Idx) ?_).trans ?_
    · rw [rowMajor_val3 _ (28 * 128) 128 rfl rfl, rowMajor_val4 _ (38 * (28 * 128)) (28 * 128) 128 rfl rfl rfl]
      show (x 1 : ℕ) * _ + (x 2 : ℕ) * _ + (x 3 : ℕ) = (x 0 : ℕ) * _ + (x 1 : ℕ) * _ + (x 2 : ℕ) * _ + (x 3 : ℕ)
      rw [hx0]; omega
    · rw [View.readCov_eq_canon']
      refine (pieces_pad ..).trans (pad_congr ?_ ?_ ?_)
      · show 0 + 1 * (x 3 : ℕ) = 0 + 1 * (x 3 : ℕ); rfl
      · show 0 + 1 * (x 1 : ℕ) = 0 + 1 * (x 1 : ℕ); rfl
      · show (10 - (k : ℕ)) + 1 * (x 2 : ℕ) = (0 + 1 * (x 2 : ℕ)) + ((10 - (k : ℕ)) + 1 * (x 0 : ℕ)); omega
  · have h0 := (y 0).isLt
    refine ⟨planePiece c arg1 harg1 arg9 x0 (y 0) h0, (List.mem_ofFn' _ _).mpr ⟨⟨10 - y 0, by omega⟩, ?_⟩, ?_⟩
    · show planePiece c arg1 harg1 arg9 x0 (10 - (10 - (y 0 : ℕ))) _ = _
      congr 1
      show 10 - (10 - (y 0 : ℕ)) = y 0
      have : (y 0 : ℕ) < 11 := h0
      omega
    · unfold planePiece
      rw [Rect.mem_set_unit]
      intro a
      have := (y a).isLt
      match a with
      | ⟨0, _⟩ => exact ⟨le_rfl, Nat.lt_succ_self _⟩
      | ⟨1, _⟩ => exact ⟨Nat.zero_le _, by simpa using this⟩
      | ⟨2, _⟩ => exact ⟨Nat.zero_le _, by simpa using this⟩
      | ⟨3, _⟩ => exact ⟨Nat.zero_le _, by simpa using this⟩

/-- The correlation the body computes, at a position: the specification's, of the lane's sample. -/
theorem cor_apply (c : Dev nD) (arg1 : Memref sig .tc .vmem S28x28x128 .bf16) (harg1 : arg1.IsWhole) (arg9 : Memref sig .tc .vmem S38x38x128 .f32)
    (arg10 : Memref sig .tc .vmem S11x38x28x128 .f32)
    (x0 : FVec Ideal S28x28x128 .bf16) (i j : Fin 28) (l : Fin 128) :
    kernelRun0_A.sl.r_72 (F := Ideal) c arg1 harg1 arg9 arg10 x0 (ix3 i j l) = Spec.cor (fun a b => x0 (ix3 a b l)) i j := by
  rw [cor_eq, corSum_apply _ _ i j l (fun v u => Spec.pad (fun a b => x0 (ix3 a b l)) (i + u) (j + v) * x0 (ix3 ⟨u + 8, by omega⟩ ⟨v + 8, by omega⟩ l))]
  · refine (Spec.sum_pairs (m := 11) (n := 11) (fun v u => Spec.pad (fun a b => x0 (ix3 a b l)) (i + u) (j + v) * x0 (ix3 ⟨u + 8, by omega⟩ ⟨v + 8, by omega⟩ l))).trans ?_
    rw [Finset.sum_comm]
    rfl
  · intro v u hv hu
    unfold kernelRun0_A.sl.v10
    rw [View.readCov_eq_canon', View.readCov_eq_canon']
    refine congrArg₂ (· * ·) ((pieces_planes ..).trans (pad_congr ?_ ?_ ?_)) ((pieces_pad ..).trans ?_)
    · show 0 + 1 * (l : ℕ) = l; omega
    · show u + 1 * (i : ℕ) = i + u; omega
    · show 0 + 1 * (j : ℕ) + (v + 1 * 0) = j + v; omega
    · unfold Spec.pad
      rw [dif_pos]
      · refine congrArg x0 (funext fun a => Fin.ext ?_)
        match a with
        | ⟨0, _⟩ => show 13 + 1 * u - 5 = u + 8; omega
        | ⟨1, _⟩ => show 13 + 1 * v - 5 = v + 8; omega
        | ⟨2, _⟩ => show 0 + 1 * (l : ℕ) = l; omega
      · show (5 ≤ 13 + 1 * u ∧ 13 + 1 * u < 33) ∧ 5 ≤ 13 + 1 * v ∧ 13 + 1 * v < 33; omega

end Cert.KernelIdeal.Block

end
-- ==== Proof.Layers.lean ====
module
public import proofs.«01_k».proof.Proof.Correlation
@[expose] public section
noncomputable section
/-!
The kernel's arrays after the correlation, for one block: each convolution as the windows laid in rows and one or more
products with the filters, the poolings, the mean and the logarithm of the softmax, written with the operations the body
executes. `block_eq`: the block the body stores is these layers one after the other.
-/
namespace Cert.KernelIdeal.Block
open Idealize.ShloMosaic Idealize.ShloMosaic.TcCoe
open Cert.KernelIdeal Cert.KernelIdeal.Gen

variable {F : FTy → Type} [FloatOps F]

/-! ## The first convolution -/

/-- A window of 24 x 24 positions from offset `(u, v)` fits the correlation. -/
theorem win1_slices (u v : ℕ) (hu : u < 5) (hv : v < 5) : S28x28x128.Slices ![u, v, 0] S24x24x128 := by
  refine ⟨rfl, fun a => ?_⟩
  match a with
  | ⟨0, _⟩ => show u + 24 ≤ 28; omega
  | ⟨1, _⟩ => show v + 24 ≤ 28; omega
  | ⟨2, _⟩ => show 0 + 128 ≤ 128; omega

/-- The correlation read from offset `(q / 5, q % 5)`: row `q` of the first convolution's 25 rows. -/
def win1 (A : FVec F S28x28x128 .f32) (q : Fin 25) : FVec F S1x24x24x128 .f32 :=
  shapeCast S1x24x24x128 (extractStridedSlice S24x24x128 ![(q : ℕ) / 5, (q : ℕ) % 5, 0] A (win1_slices _ _ (by omega) (by omega))) shapeCasts_S24x24x128_S1x24x24x128

/-- The 25 windows add up to the 25 rows. -/
theorem win1_concat (A : FVec F S28x28x128 .f32) :
    Shape.Concatenates ((List.ofFn fun q : Fin 25 => (⟨S1x24x24x128, win1 A q⟩ : (s : Shape) × (s.Idx → F .f32))).map (·.1)) S25x24x24x128 0 :=
  concatenates_S1x24x24x128_S1x24x24x128_S1x24x24x128_S1x24x24x128_S1x24x24x128_S1x24x24x128_S1x24x24x128_S1x24x24x128_S1x24x24x128_S1x24x24x128_S1x24x24x128_S1x24x24x128_S1x24x24x128_S1x24x24x128_S1x24x24x128_S1x24x24x128_S1x24x24x128_S1x24x24x128_S1x24x24x128_S1x24x24x128_S1x24x24x128_S1x24x24x128_S1x24x24x128_S1x24x24x128_S1x24x24x128_S25x24x24x128_d0

/-- The 25 rows, laid one upon the other. -/
def rows1 (A : FVec F S28x28x128 .f32) : FVec F S25x24x24x128 .f32 :=
  concatenate S25x24x24x128 0 (List.ofFn fun q : Fin 25 => (⟨S1x24x24x128, win1 A q⟩ : (s : Shape) × (s.Idx → F .f32))) (win1_concat A)

/-- The first convolution of the map `A` with filters `W` and biases `b`. -/
def layer1 (A : FVec F S28x28x128 .f32) (W : FVec F S32x25 .f32) (b : FVec F S32x1 .f32) : FVec F S32x24x24x128 .f32 :=
  addf (shapeCast S32x24x24x128 (matmul dot_S32x25_S25x73728_S32x73728_1_0_0_1_n_n none (shapeCast S32x25 W shapeCasts_S32x25_S32x25)
      (shapeCast S25x73728 (rows1 A) shapeCasts_S25x24x24x128_S25x73728) (constant S32x73728 .f32 0x00000000#32)) shapeCasts_S32x73728_S32x24x24x128)
    (broadcastTo S32x24x24x128 (shapeCast S32x1x1x1 (shapeCast S32x1 b shapeCasts_S32x1_S32x1) shapeCasts_S32x1_S32x1x1x1) broadcasts_S32x1x1x1_S32x24x24x128)

set_option maxRecDepth 65536 in
/-- The first convolution that the body computes is `layer1` of the correlation. -/
theorem layer1_eq (c : Dev nD) (arg1 : Memref sig .tc .vmem S28x28x128 .bf16) (harg1 : arg1.IsWhole)
    (arg2 : Memref sig .tc .vmem S32x25 .f32) (harg2 : arg2.IsWhole) (arg3 : Memref sig .tc .vmem S32x1 .f32) (harg3 : arg3.IsWhole)
    (arg9 : Memref sig .tc .vmem S38x38x128 .f32) (arg10 : Memref sig .tc .vmem S11x38x28x128 .f32)
    (x0 : Vec F S28x28x128 .bf16) (x1 : Vec F S32x25 .f32) (x2 : Vec F S32x1 .f32) :
    kernelRun0_A.sl.r_80 c arg1 harg1 arg2 harg2 arg3 harg3 arg9 arg10 x0 x1 x2
      = layer1 (kernelRun0_A.sl.r_72 c arg1 harg1 arg9 arg10 x0)
          (View.readAt (Elt F) arg2.view (Rect.unit (s := S32x25) ![0, 0] S32x25.size inb_S32x25_S32x25_0_0).toLoadRect (harg2.unread x1))
          (View.readAt (Elt F) arg3.view (Rect.unit (s := S32x1) ![0, 0] S32x1.size inb_S32x1_S32x1_0_0).toLoadRect (harg3.unread x2)) := rfl

/-! ## The second convolution -/

/-- A window of 8 x 8 positions from offset `(u, v)` fits the first pooling. -/
theorem win2_slices (u v : ℕ) (hu : u < 5) (hv : v < 5) : S32x12x12x128.Slices ![0, u, v, 0] S32x8x8x128 := by
  refine ⟨rfl, fun a => ?_⟩
  match a with
  | ⟨0, _⟩ => show 0 + 32 ≤ 32; omega
  | ⟨1, _⟩ => show u + 8 ≤ 12; omega
  | ⟨2, _⟩ => show v + 8 ≤ 12; omega
  | ⟨3, _⟩ => show 0 + 128 ≤ 128; omega

/-- The 32 channels read from offset `(u, v)`. -/
def win2 (A : FVec F S32x12x12x128 .f32) (u : ℕ) (hu : u < 5) (v : Fin 5) : FVec F S32x8x8x128 .f32 :=
  extractStridedSlice S32x8x8x128 ![0, u, (v : ℕ), 0] A (win2_slices u v hu v.2)

/-- The five windows of 32 channels add up to the 160 rows. -/
theorem win2_concat (A : FVec F S32x12x12x128 .f32) (u : ℕ) (hu : u < 5) :
    Shape.Concatenates ((List.ofFn fun v : Fin 5 => (⟨S32x8x8x128, win2 A u hu v⟩ : (s : Shape) × (s.Idx → F .f32))).map (·.1)) S160x8x8x128 0 :=
  concatenates_S32x8x8x128_S32x8x8x128_S32x8x8x128_S32x8x8x128_S32x8x8x128_S160x8x8x128_d0

/-- The 160 rows at row offset `u`: the five column offsets one upon the other. -/
def rows2 (A : FVec F S32x12x12x128 .f32) (u : ℕ) (hu : u < 5) : FVec F S160x8x8x128 .f32 :=
  concatenate S160x8x8x128 0 (List.ofFn fun v : Fin 5 => (⟨S32x8x8x128, win2 A u hu v⟩ : (s : Shape) × (s.Idx → F .f32))) (win2_concat A u hu)

/-- The products at the first `n` row offsets, added up from zero. -/
def sum2 (A : FVec F S32x12x12x128 .f32) (W : ∀ u : ℕ, u < 5 → FVec F S1x64x160 .f32) : (n : ℕ) → n ≤ 5 → FVec F S64x8192 .f32
  | 0, _ => broadcast S64x8192 (Scalar.ofBits .f32 0x00000000#32)
  | n + 1, h => addf (sum2 A W n (by omega)) (matmul dot_S64x160_S160x8192_S64x8192_1_0_0_1_n_n none (shapeCast S64x160 (W n (by omega)) shapeCasts_S1x64x160_S64x160)
      (shapeCast S160x8192 (rows2 A n (by omega)) shapeCasts_S160x8x8x128_S160x8192) (constant S64x8192 .f32 0x00000000#32))

/-- The second convolution of the map `A`. -/
def layer2 (A : FVec F S32x12x12x128 .f32) (W : ∀ u : ℕ, u < 5 → FVec F S1x64x160 .f32) (b : FVec F S64x1 .f32) : FVec F S64x8x8x128 .f32 :=
  addf (shapeCast S64x8x8x128 (sum2 A W 5 le_rfl) shapeCasts_S64x8192_S64x8x8x128)
    (broadcastTo S64x8x8x128 (shapeCast S64x1x1x1 (shapeCast S64x1 b shapeCasts_S64x1_S64x1) shapeCasts_S64x1_S64x1x1x1) broadcasts_S64x1x1x1_S64x8x8x128)

/-- The positive part of the second convolution, and the maximum of each 2 x 2 square. -/
def pool2 (H : FVec F S64x8x8x128 .f32) : FVec F S64x4x4x128 .f32 :=
  have m : FVec F S64x4x4x256 .f32 := shapeCast S64x4x4x256 (multiReduction .maximumf [2] S64x4x8x128
    (shapeCast S64x4x2x8x128 (maximumf H (broadcast S64x8x8x128 (Scalar.ofBits .f32 0x00000000#32))) shapeCasts_S64x8x8x128_S64x4x2x8x128)
    0xFF800000#32 reduces_S64x4x2x8x128_S64x4x8x128 (.inl rfl) rfl) shapeCasts_S64x4x8x128_S64x4x4x256
  maximumf (extractStridedSlice S64x4x4x128 ![0, 0, 0, 0] m slices_S64x4x4x256_o0_0_0_0_S64x4x4x128)
    (extractStridedSlice S64x4x4x128 ![0, 0, 0, 128] m slices_S64x4x4x256_o0_0_0_128_S64x4x4x128)

/-! ## The third convolution -/

/-- A window of 2 x 2 positions from offset `(u, v)` fits the second pooling. -/
theorem win3_slices (u v : ℕ) (hu : u < 3) (hv : v < 3) : S64x4x4x128.Slices ![0, u, v, 0] S64x2x2x128 := by
  refine ⟨rfl, fun a => ?_⟩
  match a with
  | ⟨0, _⟩ => show 0 + 64 ≤ 64; omega
  | ⟨1, _⟩ => show u + 2 ≤ 4; omega
  | ⟨2, _⟩ => show v + 2 ≤ 4; omega
  | ⟨3, _⟩ => show 0 + 128 ≤ 128; omega

/-- The 64 channels read from offset `(q / 3, q % 3)`. -/
def win3 (A : FVec F S64x4x4x128 .f32) (q : Fin 9) : FVec F S64x2x2x128 .f32 :=
  extractStridedSlice S64x2x2x128 ![0, (q : ℕ) / 3, (q : ℕ) % 3, 0] A (win3_slices _ _ (by omega) (by omega))

/-- The nine windows of 64 channels add up to the 576 rows. -/
theorem win3_concat (A : FVec F S64x4x4x128 .f32) :
    Shape.Concatenates ((List.ofFn fun q : Fin 9 => (⟨S64x2x2x128, win3 A q⟩ : (s : Shape) × (s.Idx → F .f32))).map (·.1)) S576x2x2x128 0 :=
  concatenates_S64x2x2x128_S64x2x2x128_S64x2x2x128_S64x2x2x128_S64x2x2x128_S64x2x2x128_S64x2x2x128_S64x2x2x128_S64x2x2x128_S576x2x2x128_d0

/-- The 576 rows: the nine offsets one upon the other. -/
def rows3 (A : FVec F S64x4x4x128 .f32) : FVec F S576x2x2x128 .f32 :=
  concatenate S576x2x2x128 0 (List.ofFn fun q : Fin 9 => (⟨S64x2x2x128, win3 A q⟩ : (s : Shape) × (s.Idx → F .f32))) (win3_concat A)

/-- The third convolution of the map `A`, its two positions' axes and the lanes in one. -/
def layer3 (A : FVec F S64x4x4x128 .f32) (W : FVec F S10x576 .f32) (b : FVec F S10x1 .f32) : FVec F S10x512 .f32 :=
  addf (matmul dot_S10x576_S576x512_S10x512_1_0_0_1_n_n none (shapeCast S10x576 W shapeCasts_S10x576_S10x576)
      (shapeCast S576x512 (rows3 A) shapeCasts_S576x2x2x128_S576x512) (constant S10x512 .f32 0x00000000#32))
    (broadcastTo S10x512 (shapeCast S10x1 b shapeCasts_S10x1_S10x1) broadcasts_S10x1_S10x512)

/-- The mean of the positive part over the four positions. -/
def gap3 (H : FVec F S10x512 .f32) : FVec F S10x128 .f32 :=
  divf (multiReduction .add [1] S10x128 (shapeCast S10x4x128 (maximumf H (broadcast S10x512 (Scalar.ofBits .f32 0x00000000#32))) shapeCasts_S10x512_S10x4x128)
    0x00000000#32 reduces_S10x4x128_S10x128 (.inl rfl) rfl) (broadcast S10x128 (Scalar.ofBits .f32 0x40800000#32))

/-- Each class's value less the greatest of its lane. -/
def shift (g : FVec F S10x128 .f32) : FVec F S10x128 .f32 :=
  subf g (broadcastTo S10x128 (shapeCast S1x128 (multiReduction .maximumf [0] S128 g 0xFF800000#32 reduces_S10x128_S128 (.inl rfl) rfl) shapeCasts_S128_S1x128) broadcasts_S1x128_S10x128)

/-- The logarithm of the softmax over the ten classes, from the shifted values. -/
def logsm (e : FVec F S10x128 .f32) : FVec F S10x128 .f32 :=
  subf e (broadcastTo S10x128 (log (shapeCast S1x128 (multiReduction .add [0] S128 (exp e) 0x00000000#32 reduces_S10x128_S128 (.inl rfl) rfl) shapeCasts_S128_S1x128)) broadcasts_S1x128_S10x128)

/-- The filters at row offset `u` lie inside the array of the second convolution's filters. -/
theorem w2_inb (u : ℕ) (hu : u < 5) : ∀ a, (![u, 0, 0] : Fin 3 → ℕ) a + S1x64x160.size a ≤ S5x64x160.size a := by
  intro a
  match a with
  | ⟨0, _⟩ => show u + 1 ≤ 5; omega
  | ⟨1, _⟩ => show 0 + 64 ≤ 64; omega
  | ⟨2, _⟩ => show 0 + 160 ≤ 160; omega

set_option maxRecDepth 65536 in
/-- The block the body stores: the layers one after the other. -/
theorem block_eq (c : Dev nD) (arg1 : Memref sig .tc .vmem S28x28x128 .bf16) (harg1 : arg1.IsWhole)
    (arg2 : Memref sig .tc .vmem S32x25 .f32) (harg2 : arg2.IsWhole) (arg3 : Memref sig .tc .vmem S32x1 .f32) (harg3 : arg3.IsWhole)
    (arg4 : Memref sig .tc .vmem S5x64x160 .f32) (harg4 : arg4.IsWhole) (arg5 : Memref sig .tc .vmem S64x1 .f32) (harg5 : arg5.IsWhole)
    (arg6 : Memref sig .tc .vmem S10x576 .f32) (harg6 : arg6.IsWhole) (arg7 : Memref sig .tc .vmem S10x1 .f32) (harg7 : arg7.IsWhole)
    (arg9 : Memref sig .tc .vmem S38x38x128 .f32) (arg10 : Memref sig .tc .vmem S11x38x28x128 .f32)
    (x0 : Vec F S28x28x128 .bf16) (x1 : Vec F S32x25 .f32) (x2 : Vec F S32x1 .f32) (x3 : Vec F S5x64x160 .f32) (x4 : Vec F S64x1 .f32)
    (x5 : Vec F S10x576 .f32) (x6 : Vec F S10x1 .f32) :
    kernelRun0_A.sl.r_89 c arg1 harg1 arg2 harg2 arg3 harg3 arg4 harg4 arg5 harg5 arg6 harg6 arg7 harg7 arg9 arg10 x0 x1 x2 x3 x4 x5 x6
      = logsm (shift (gap3 (layer3 (pool2 (layer2 (k0_pay95 (kernelRun0_A.sl.r_80 c arg1 harg1 arg2 harg2 arg3 harg3 arg9 arg10 x0 x1 x2) (Scalar.ofBits .f32 0x00000000#32))
          (fun u hu => View.readAt (Elt F) arg4.view (Rect.unit (s := S5x64x160) ![u, 0, 0] S1x64x160.size (w2_inb u hu)).toLoadRect (harg4.unread x3))
          (View.readAt (Elt F) arg5.view (Rect.unit (s := S64x1) ![0, 0] S64x1.size inb_S64x1_S64x1_0_0).toLoadRect (harg5.unread x4))))
          (View.readAt (Elt F) arg6.view (Rect.unit (s := S10x576) ![0, 0] S10x576.size inb_S10x576_S10x576_0_0).toLoadRect (harg6.unread x5))
          (View.readAt (Elt F) arg7.view (Rect.unit (s := S10x1) ![0, 0] S10x1.size inb_S10x1_S10x1_0_0).toLoadRect (harg7.unread x6))))) := rfl

end Cert.KernelIdeal.Block

end
-- ==== Proof.LayersConv.lean ====
module
public import proofs.«01_k».proof.Proof.Layers
@[expose] public section
noncomputable section
/-!
The three convolutions of the kernel read at one index, on extended reals: rows of windows times filters are the
specification's sums over channel, row and column.
-/
namespace Cert.KernelIdeal.Block
open Idealize.ShloMosaic Idealize.ShloMosaic.TcCoe
open Cert.KernelIdeal Cert.KernelIdeal.Gen

/-- Row `q` of the first convolution's rows is the map read from offset `(q / 5, q % 5)`. -/
theorem rows1_apply (A : FVec Ideal S28x28x128 .f32) (q : Fin 25) (i j : Fin 24) (l : Fin 128) :
    rows1 A (ix4 q i j l) = A (ix3 ⟨(q : ℕ) / 5 + i, by omega⟩ ⟨(q : ℕ) % 5 + j, by omega⟩ l) := by
  unfold rows1
  refine (concatenate_ofFn_apply (t := S25x24x24x128) (s₁ := S1x24x24x128) 0 (win1 A) _ rfl 1 rfl (ix4 q i j l) q ?_ (ix4 (0 : Fin 1) i j l) ?_ ?_).trans ?_
  · exact Nat.div_one _
  · exact (Nat.mod_one _).symm
  · intro b hb
    match b with
    | ⟨0, _⟩ => exact absurd rfl hb
    | ⟨1, _⟩ => rfl
    | ⟨2, _⟩ => rfl
    | ⟨3, _⟩ => rfl
  · unfold win1
    refine (shapeCast_apply _ _ _ (ix3 i j l : S24x24x128.Idx) ?_).trans (extractStridedSlice_apply _ _ _ _ _ fun a => ?_)
    · rw [rowMajor_val3 _ (24 * 128) 128 rfl rfl, rowMajor_val4 _ (24 * (24 * 128)) (24 * 128) 128 rfl rfl rfl]
      show (i : ℕ) * _ + (j : ℕ) * _ + (l : ℕ) = 0 * _ + (i : ℕ) * _ + (j : ℕ) * _ + (l : ℕ)
      omega
    · match a with
      | ⟨0, _⟩ => rfl
      | ⟨1, _⟩ => rfl
      | ⟨2, _⟩ => exact (Nat.zero_add _).symm

/-- Row `q` of the second convolution's rows at row offset `u`: channel `q % 32` from column offset `q / 32`. -/
theorem rows2_apply (A : FVec Ideal S32x12x12x128 .f32) (u : ℕ) (hu : u < 5) (q : Fin 160) (i j : Fin 8) (l : Fin 128) :
    rows2 A u hu (ix4 q i j l) = A (ix4 ⟨(q : ℕ) % 32, by omega⟩ ⟨u + i, by omega⟩ ⟨(q : ℕ) / 32 + j, by omega⟩ l) := by
  unfold rows2
  refine (concatenate_ofFn_apply (t := S160x8x8x128) (s₁ := S32x8x8x128) 0 (win2 A u hu) _ rfl 32 rfl (ix4 q i j l) ⟨(q : ℕ) / 32, by omega⟩ rfl (ix4 (⟨(q : ℕ) % 32, by omega⟩ : Fin 32) i j l) rfl ?_).trans ?_
  · intro b hb
    match b with
    | ⟨0, _⟩ => exact absurd rfl hb
    | ⟨1, _⟩ => rfl
    | ⟨2, _⟩ => rfl
    | ⟨3, _⟩ => rfl
  · unfold win2
    refine extractStridedSlice_apply _ _ _ _ _ fun a => ?_
    match a with
    | ⟨0, _⟩ => exact (Nat.zero_add _).symm
    | ⟨1, _⟩ => rfl
    | ⟨2, _⟩ => rfl
    | ⟨3, _⟩ => exact (Nat.zero_add _).symm

/-- Row `q` of the third convolution's rows: channel `q % 64` from the offset numbered `q / 64`. -/
theorem rows3_apply (A : FVec Ideal S64x4x4x128 .f32) (q : Fin 576) (i j : Fin 2) (l : Fin 128) :
    rows3 A (ix4 q i j l) = A (ix4 ⟨(q : ℕ) % 64, by omega⟩ ⟨(q : ℕ) / 64 / 3 + i, by omega⟩ ⟨(q : ℕ) / 64 % 3 + j, by omega⟩ l) := by
  unfold rows3
  refine (concatenate_ofFn_apply (t := S576x2x2x128) (s₁ := S64x2x2x128) 0 (win3 A) _ rfl 64 rfl (ix4 q i j l) ⟨(q : ℕ) / 64, by omega⟩ rfl (ix4 (⟨(q : ℕ) % 64, by omega⟩ : Fin 64) i j l) rfl ?_).trans ?_
  · intro b hb
    match b with
    | ⟨0, _⟩ => exact absurd rfl hb
    | ⟨1, _⟩ => rfl
    | ⟨2, _⟩ => rfl
    | ⟨3, _⟩ => rfl
  · unfold win3
    refine extractStridedSlice_apply _ _ _ _ _ fun a => ?_
    match a with
    | ⟨0, _⟩ => exact (Nat.zero_add _).symm
    | ⟨1, _⟩ => rfl
    | ⟨2, _⟩ => rfl
    | ⟨3, _⟩ => exact (Nat.zero_add _).symm

/-- The first convolution at a position, as a sum over its 25 rows. -/
theorem layer1_sum (A : FVec Ideal S28x28x128 .f32) (W : FVec Ideal S32x25 .f32) (b : FVec Ideal S32x1 .f32) (o : Fin 32) (i j : Fin 24) (l : Fin 128) :
    layer1 A W b (ix4 o i j l) = (∑ q : Fin 25, W (ix2 o q) * rows1 A (ix4 q i j l)) + b (ix2 o 0) := by
  unfold layer1
  pointwise

/-- The first convolution at a position. -/
theorem layer1_apply (A : FVec Ideal S28x28x128 .f32) (W : FVec Ideal S32x25 .f32) (b : FVec Ideal S32x1 .f32) (l : Fin 128) (a : ℕ → ℕ → EReal)
    (ha : ∀ i j : Fin 28, A (ix3 i j l) = a i j) (o : Fin 32) (i j : Fin 24) :
    layer1 A W b (ix4 o i j l) = Spec.conv (fun (o : Fin 32) (_ : Fin 1) (u v : Fin 5) => W (ix2 o ⟨(u : ℕ) * 5 + v, by omega⟩)) (fun o => b (ix2 o 0)) (fun _ => a) o i j := by
  rw [layer1_sum]
  unfold Spec.conv
  refine congrArg (· + _) ?_
  rw [Fin.sum_univ_one, ← Spec.sum_pairs]
  refine Finset.sum_congr rfl fun q _ => ?_
  rw [rows1_apply, ha]
  refine congrArg₂ (· * ·) (congrArg W (congrArg (ix2 o) (Fin.ext ?_))) (congrArg₂ a ?_ ?_)
  · show (q : ℕ) = (q : ℕ) / 5 * 5 + (q : ℕ) % 5; omega
  · show (q : ℕ) / 5 + (i : ℕ) = i + (q : ℕ) / 5; omega
  · show (q : ℕ) % 5 + (j : ℕ) = j + (q : ℕ) % 5; omega

/-- One product of the second convolution, as a sum over its 160 rows. -/
theorem term2_sum (A : FVec Ideal S32x12x12x128 .f32) (W : FVec Ideal S1x64x160 .f32) (u : ℕ) (hu : u < 5) (o : Fin 64) (p : Fin 8192) :
    matmul dot_S64x160_S160x8192_S64x8192_1_0_0_1_n_n none (shapeCast S64x160 W shapeCasts_S1x64x160_S64x160)
      (shapeCast S160x8192 (rows2 A u hu) shapeCasts_S160x8x8x128_S160x8192) (constant S64x8192 .f32 0x00000000#32) (ix2 o p)
    = ∑ q : Fin 160, W (ix3 0 o q) * rows2 A u hu (ix4 q ⟨(p : ℕ) / 1024, by omega⟩ ⟨(p : ℕ) / 128 % 8, by omega⟩ ⟨(p : ℕ) % 128, by omega⟩) := by
  pointwise

/-- The sum over the first `n` row offsets. -/
theorem sum2_apply (A : FVec Ideal S32x12x12x128 .f32) (W : ∀ u : ℕ, u < 5 → FVec Ideal S1x64x160 .f32) (o : Fin 64) (p : Fin 8192) :
    ∀ (n : ℕ) (h : n ≤ 5), sum2 A W n h (ix2 o p)
      = ∑ u : Fin n, ∑ q : Fin 160, W u (by omega) (ix3 0 o q) * rows2 A u (by omega) (ix4 q ⟨(p : ℕ) / 1024, by omega⟩ ⟨(p : ℕ) / 128 % 8, by omega⟩ ⟨(p : ℕ) % 128, by omega⟩)
  | 0, _ => by
    unfold sum2
    pointwise
    exact Fin.sum_univ_zero _ |>.symm
  | n + 1, h => by
    unfold sum2
    refine (congrArg₂ (· + ·) (sum2_apply A W o p n (by omega)) (term2_sum ..)).trans ?_
    exact (Fin.sum_univ_castSucc (n := n) (fun u : Fin (n + 1) => ∑ q : Fin 160, W u (by omega) (ix3 0 o q)
      * rows2 A u (by omega) (ix4 q ⟨(p : ℕ) / 1024, by omega⟩ ⟨(p : ℕ) / 128 % 8, by omega⟩ ⟨(p : ℕ) % 128, by omega⟩))).symm

/-- The second convolution at a position: the added products there and the bias. -/
theorem layer2_sum (A : FVec Ideal S32x12x12x128 .f32) (W : ∀ u : ℕ, u < 5 → FVec Ideal S1x64x160 .f32) (b : FVec Ideal S64x1 .f32) (o : Fin 64) (i j : Fin 8) (l : Fin 128) :
    layer2 A W b (ix4 o i j l) = sum2 A W 5 le_rfl (ix2 o ⟨i * 1024 + j * 128 + l, by omega⟩) + b (ix2 o 0) := by
  unfold layer2
  pointwise

/-- The second convolution at a position. -/
theorem layer2_apply (A : FVec Ideal S32x12x12x128 .f32) (W : ∀ u : ℕ, u < 5 → FVec Ideal S1x64x160 .f32) (b : FVec Ideal S64x1 .f32) (l : Fin 128)
    (a : Fin 32 → ℕ → ℕ → EReal) (ha : ∀ (c : Fin 32) (i j : Fin 12), A (ix4 c i j l) = a c i j) (o : Fin 64) (i j : Fin 8) :
    layer2 A W b (ix4 o i j l) = Spec.conv (fun (o : Fin 64) (c : Fin 32) (u v : Fin 5) => W u u.2 (ix3 0 o ⟨(v : ℕ) * 32 + c, by omega⟩)) (fun o => b (ix2 o 0)) a o i j := by
  rw [layer2_sum, sum2_apply]
  unfold Spec.conv
  refine congrArg (· + _) ?_
  refine Eq.trans (Finset.sum_congr rfl fun u _ => ?_) Finset.sum_comm
  refine Eq.trans ?_ Finset.sum_comm
  rw [← Spec.sum_pairs]
  refine Finset.sum_congr rfl fun q _ => ?_
  have hb : (i : ℕ) * 1024 + j * 128 + l < 8192 := by omega
  have hp : ∀ h, (⟨((⟨(i : ℕ) * 1024 + j * 128 + l, hb⟩ : Fin 8192) : ℕ) % 128, h⟩ : Fin 128) = l := fun h => Fin.ext (by show ((i : ℕ) * 1024 + j * 128 + l) % 128 = l; omega)
  rw [rows2_apply, hp, ha]
  refine congrArg₂ (· * ·) (congrArg (W u u.2) (congrArg (ix3 0 o) (Fin.ext ?_))) (congr (congrArg₂ a (Fin.ext ?_) ?_) ?_)
  · show (q : ℕ) = (q : ℕ) / 32 * 32 + (q : ℕ) % 32; omega
  · rfl
  · show (u : ℕ) + ((i : ℕ) * 1024 + j * 128 + l) / 1024 = i + u; omega
  · show (q : ℕ) / 32 + ((i : ℕ) * 1024 + j * 128 + l) / 128 % 8 = j + (q : ℕ) / 32; omega

/-- The third convolution at a position, as a sum over its 576 rows. -/
theorem layer3_sum (A : FVec Ideal S64x4x4x128 .f32) (W : FVec Ideal S10x576 .f32) (b : FVec Ideal S10x1 .f32) (o : Fin 10) (p : Fin 512) :
    layer3 A W b (ix2 o p) = (∑ q : Fin 576, W (ix2 o q) * rows3 A (ix4 q ⟨(p : ℕ) / 256, by omega⟩ ⟨(p : ℕ) / 128 % 2, by omega⟩ ⟨(p : ℕ) % 128, by omega⟩)) + b (ix2 o 0) := by
  unfold layer3
  pointwise

/-- The third convolution at a position. -/
theorem layer3_apply (A : FVec Ideal S64x4x4x128 .f32) (W : FVec Ideal S10x576 .f32) (b : FVec Ideal S10x1 .f32) (l : Fin 128)
    (a : Fin 64 → ℕ → ℕ → EReal) (ha : ∀ (c : Fin 64) (i j : Fin 4), A (ix4 c i j l) = a c i j) (o : Fin 10) (i j : Fin 2) :
    layer3 A W b (ix2 o ⟨(i * 2 + j) * 128 + l, by omega⟩)
      = Spec.conv (fun (o : Fin 10) (c : Fin 64) (u v : Fin 3) => W (ix2 o ⟨((u : ℕ) * 3 + v) * 64 + c, by omega⟩)) (fun o => b (ix2 o 0)) a o i j := by
  rw [layer3_sum]
  unfold Spec.conv
  refine congrArg (· + _) ?_
  rw [Finset.sum_comm]
  refine Eq.trans ?_ (Finset.sum_congr rfl fun u _ => Finset.sum_comm)
  rw [← Spec.sum_pairs (m := 3) (n := 3), ← Spec.sum_pairs (m := 9) (n := 64)
    (fun k c => W (ix2 o ⟨((k.divNat (m := 3) (n := 3) : ℕ) * 3 + (k.modNat (m := 3) (n := 3) : ℕ)) * 64 + c, by omega⟩) * a c (i + (k.divNat (m := 3) (n := 3) : ℕ)) (j + (k.modNat (m := 3) (n := 3) : ℕ)))]
  refine Finset.sum_congr rfl fun q _ => ?_
  have hb : ((i : ℕ) * 2 + j) * 128 + l < 512 := by omega
  have hp : ∀ h, (⟨((⟨((i : ℕ) * 2 + j) * 128 + l, hb⟩ : Fin 512) : ℕ) % 128, h⟩ : Fin 128) = l := fun h => Fin.ext (by show (((i : ℕ) * 2 + j) * 128 + l) % 128 = l; omega)
  rw [rows3_apply, hp, ha]
  refine congrArg₂ (· * ·) (congrArg W (congrArg (ix2 o) (Fin.ext ?_))) (congr (congrArg₂ a (Fin.ext ?_) ?_) ?_)
  · show (q : ℕ) = ((q : ℕ) / 64 / 3 * 3 + (q : ℕ) / 64 % 3) * 64 + (q : ℕ) % 64; omega
  · rfl
  · show (q : ℕ) / 64 / 3 + (((i : ℕ) * 2 + j) * 128 + l) / 256 = i + (q : ℕ) / 64 / 3; omega
  · show (q : ℕ) / 64 % 3 + (((i : ℕ) * 2 + j) * 128 + l) / 128 % 2 = j + (q : ℕ) / 64 % 3; omega

end Cert.KernelIdeal.Block
-- ==== Proof.LayersMax.lean ====
module
public import proofs.«01_k».proof.Proof.Layers
@[expose] public section
noncomputable section
/-!
The two poolings of the kernel read at one index. The kernel takes the maximum over pairs of rows, lays pairs of columns
side by side along the lanes, and takes the maximum of the two halves.
-/
namespace Cert.KernelIdeal.Block
open Idealize.ShloMosaic Idealize.ShloMosaic.TcCoe
open Cert.KernelIdeal Cert.KernelIdeal.Gen

/-- The first pooling at a position: the maximum of two maxima, each over two rows of one column, of the positive parts. -/
theorem pool1_max (H : FVec Ideal S32x24x24x128 .f32) (o : Fin 32) (i j : Fin 12) (l : Fin 128) :
    k0_pay95 H (Scalar.ofBits .f32 0x00000000#32) (ix4 o i j l)
    = max
      (Finset.fold max (Ideal.ofBits FTy.f32 0xFF800000#32)
        (fun x : Fin 2 => max (H (ix4 o ⟨↑i * 2 + ↑x, by omega⟩ ⟨↑j * 2 + ↑l / 128, by omega⟩ ⟨↑l % 128, by omega⟩)) 0) Finset.univ)
      (Finset.fold max (Ideal.ofBits FTy.f32 0xFF800000#32)
        (fun x : Fin 2 => max (H (ix4 o ⟨↑i * 2 + ↑x, by omega⟩ ⟨↑j * 2 + (128 + ↑l) / 128, by omega⟩ l)) 0) Finset.univ) := by
  unfold k0_pay95
  pointwise

/-- The second pooling at a position: the same maximum of two maxima. -/
theorem pool2_max (H : FVec Ideal S64x8x8x128 .f32) (o : Fin 64) (i j : Fin 4) (l : Fin 128) :
    pool2 H (ix4 o i j l)
    = max
      (Finset.fold max (Ideal.ofBits FTy.f32 0xFF800000#32)
        (fun x : Fin 2 => max (H (ix4 o ⟨↑i * 2 + ↑x, by omega⟩ ⟨↑j * 2 + ↑l / 128, by omega⟩ ⟨↑l % 128, by omega⟩)) 0) Finset.univ)
      (Finset.fold max (Ideal.ofBits FTy.f32 0xFF800000#32)
        (fun x : Fin 2 => max (H (ix4 o ⟨↑i * 2 + ↑x, by omega⟩ ⟨↑j * 2 + (128 + ↑l) / 128, by omega⟩ l)) 0) Finset.univ) := by
  unfold pool2
  pointwise

end Cert.KernelIdeal.Block
-- ==== Proof.LayersPool.lean ====
module
public import proofs.«01_k».proof.Proof.LayersMax
@[expose] public section
noncomputable section
/-!
The poolings, the mean and the logarithm of the softmax of the kernel at one index, as the specification's.
-/
namespace Cert.KernelIdeal.Block
open Idealize.ShloMosaic Idealize.ShloMosaic.TcCoe
open Cert.KernelIdeal Cert.KernelIdeal.Gen

/-- A maximum of two values, folded from −∞. -/
theorem fold_two (f : Fin 2 → EReal) : Finset.fold max (Ideal.ofBits .f32 0xFF800000#32) f Finset.univ = max (f 0) (f 1) := by
  rw [Spec.negInf]
  have : (Finset.univ : Finset (Fin 2)) = {0, 1} := rfl
  rw [this, Finset.fold_insert (by decide), Finset.fold_singleton, max_bot_right]

/-- The first pooling at a position. -/
theorem pool1_apply (H : FVec Ideal S32x24x24x128 .f32) (l : Fin 128) (a : Fin 32 → ℕ → ℕ → EReal)
    (ha : ∀ (c : Fin 32) (i j : Fin 24), H (ix4 c i j l) = a c i j) (o : Fin 32) (i j : Fin 12) :
    k0_pay95 H (Scalar.ofBits .f32 0x00000000#32) (ix4 o i j l) = Spec.pool (Spec.relu a) o i j := by
  have hp : ∀ h, (⟨(l : ℕ) % 128, h⟩ : Fin 128) = l := fun h => Fin.ext (by show (l : ℕ) % 128 = l; omega)
  rw [pool1_max, fold_two, fold_two]
  simp only [hp, ha]
  unfold Spec.pool Spec.relu
  have e0 : (j : ℕ) * 2 + (l : ℕ) / 128 = 2 * j := by omega
  have e1 : (j : ℕ) * 2 + (128 + (l : ℕ)) / 128 = 2 * j + 1 := by omega
  have e2 : (i : ℕ) * 2 + ((0 : Fin 2) : ℕ) = 2 * i := by rw [Fin.val_zero]; omega
  have e3 : (i : ℕ) * 2 + ((1 : Fin 2) : ℕ) = 2 * i + 1 := by rw [Fin.val_one]; omega
  rw [e0, e1, e2, e3]

/-- The second pooling at a position. -/
theorem pool2_apply (H : FVec Ideal S64x8x8x128 .f32) (l : Fin 128) (a : Fin 64 → ℕ → ℕ → EReal)
    (ha : ∀ (c : Fin 64) (i j : Fin 8), H (ix4 c i j l) = a c i j) (o : Fin 64) (i j : Fin 4) :
    pool2 H (ix4 o i j l) = Spec.pool (Spec.relu a) o i j := by
  have hp : ∀ h, (⟨(l : ℕ) % 128, h⟩ : Fin 128) = l := fun h => Fin.ext (by show (l : ℕ) % 128 = l; omega)
  rw [pool2_max, fold_two, fold_two]
  simp only [hp, ha]
  unfold Spec.pool Spec.relu
  have e0 : (j : ℕ) * 2 + (l : ℕ) / 128 = 2 * j := by omega
  have e1 : (j : ℕ) * 2 + (128 + (l : ℕ)) / 128 = 2 * j + 1 := by omega
  have e2 : (i : ℕ) * 2 + ((0 : Fin 2) : ℕ) = 2 * i := by rw [Fin.val_zero]; omega
  have e3 : (i : ℕ) * 2 + ((1 : Fin 2) : ℕ) = 2 * i + 1 := by rw [Fin.val_one]; omega
  rw [e0, e1, e2, e3]

/-- The mean at a class and a lane, as a sum over four numbered positions. -/
theorem gap3_sum (H : FVec Ideal S10x512 .f32) (o : Fin 10) (l : Fin 128) :
    gap3 H (ix2 o l) = Ideal.div (∑ x : Fin 4, max (H (ix2 o ⟨↑x * 128 + ↑l, by omega⟩)) 0) (Ideal.ofBits FTy.f32 0x40800000#32) := by
  unfold gap3
  pointwise

/-- The mean over the four positions. -/
theorem gap3_apply (H : FVec Ideal S10x512 .f32) (l : Fin 128) (a : Fin 10 → ℕ → ℕ → EReal)
    (ha : ∀ (c : Fin 10) (i j : Fin 2), H (ix2 c ⟨(i * 2 + j) * 128 + l, by omega⟩) = a c i j) (o : Fin 10) :
    gap3 H (ix2 o l) = Spec.mean4 (Spec.relu a) o := by
  rw [gap3_sum]
  unfold Spec.mean4
  rw [← Spec.sum_pairs]
  refine congrArg (Ideal.div · _) (Finset.sum_congr rfl fun q _ => ?_)
  unfold Spec.relu
  rw [← ha]
  refine congrArg (max · 0) (congrArg H (congrArg (ix2 o) (Fin.ext ?_)))
  show (q : ℕ) * 128 + (l : ℕ) = ((q : ℕ) / 2 * 2 + (q : ℕ) % 2) * 128 + l
  omega

/-- The shifted values at a class and a lane. -/
theorem shift_apply (g : FVec Ideal S10x128 .f32) (o : Fin 10) (l : Fin 128) :
    shift g (ix2 o l) = g (ix2 o l) - Finset.fold max (Ideal.ofBits FTy.f32 0xFF800000#32) (fun x : Fin 10 => g (ix2 x l)) Finset.univ := by
  unfold shift
  pointwise

/-- The last subtraction at a class and a lane. -/
theorem logsm_apply (e : FVec Ideal S10x128 .f32) (o : Fin 10) (l : Fin 128) :
    logsm e (ix2 o l) = e (ix2 o l) - Ideal.log (∑ x : Fin 10, Ideal.exp (e (ix2 x l))) := by
  unfold logsm
  pointwise

/-- The log-softmax at a class. -/
theorem softmax_apply (g : FVec Ideal S10x128 .f32) (l : Fin 128) (a : Fin 10 → EReal) (ha : ∀ o, g (ix2 o l) = a o) (o : Fin 10) :
    logsm (shift g) (ix2 o l) = Spec.logSoftmax a o := by
  rw [logsm_apply]
  simp only [shift_apply, ha]
  rw [Spec.negInf]
  rfl

end Cert.KernelIdeal.Block
-- ==== Proof.Block.lean ====
module
public import proofs.«01_k».proof.Proof.LayersConv
public import proofs.«01_k».proof.Proof.LayersPool
@[expose] public section
noncomputable section
/-!
What the body stores at one grid point, lane by lane.
-/
namespace Cert.KernelIdeal.Block
open Idealize.ShloMosaic Idealize.ShloMosaic.TcCoe
open Cert.KernelIdeal Cert.KernelIdeal.Gen

/-- Lane `l` of the block the body stores is the network at the lane's sample. -/
theorem block_apply (c : Dev nD) (arg1 : Memref sig .tc .vmem S28x28x128 .bf16) (harg1 : arg1.IsWhole)
    (arg2 : Memref sig .tc .vmem S32x25 .f32) (harg2 : arg2.IsWhole) (arg3 : Memref sig .tc .vmem S32x1 .f32) (harg3 : arg3.IsWhole)
    (arg4 : Memref sig .tc .vmem S5x64x160 .f32) (harg4 : arg4.IsWhole) (arg5 : Memref sig .tc .vmem S64x1 .f32) (harg5 : arg5.IsWhole)
    (arg6 : Memref sig .tc .vmem S10x576 .f32) (harg6 : arg6.IsWhole) (arg7 : Memref sig .tc .vmem S10x1 .f32) (harg7 : arg7.IsWhole)
    (arg9 : Memref sig .tc .vmem S38x38x128 .f32) (arg10 : Memref sig .tc .vmem S11x38x28x128 .f32)
    (x0 : FVec Ideal S28x28x128 .bf16) (x1 : FVec Ideal S32x25 .f32) (x2 : FVec Ideal S32x1 .f32) (x3 : FVec Ideal S5x64x160 .f32) (x4 : FVec Ideal S64x1 .f32)
    (x5 : FVec Ideal S10x576 .f32) (x6 : FVec Ideal S10x1 .f32) (o : Fin 10) (l : Fin 128) :
    kernelRun0_A.sl.r_89 (F := Ideal) c arg1 harg1 arg2 harg2 arg3 harg3 arg4 harg4 arg5 harg5 arg6 harg6 arg7 harg7 arg9 arg10 x0 x1 x2 x3 x4 x5 x6 (ix2 o l)
      = Spec.net (fun a b => x0 (ix3 a b l))
          (fun (o : Fin 32) (_ : Fin 1) (u v : Fin 5) => x1 (ix2 o ⟨(u : ℕ) * 5 + v, by omega⟩)) (fun o => x2 (ix2 o 0))
          (fun (o : Fin 64) (c : Fin 32) (u v : Fin 5) => x3 (ix3 u o ⟨(v : ℕ) * 32 + c, by omega⟩)) (fun o => x4 (ix2 o 0))
          (fun (o : Fin 10) (c : Fin 64) (u v : Fin 3) => x5 (ix2 o ⟨((u : ℕ) * 3 + v) * 64 + c, by omega⟩)) (fun o => x6 (ix2 o 0)) o := by
  rw [block_eq, layer1_eq]
  unfold Spec.net
  refine softmax_apply _ l _ (fun o => ?_) o
  refine gap3_apply _ l _ (fun c' i j => ?_) o
  refine (layer3_apply _ _ _ l _ (fun c' i j => pool2_apply _ l _ (fun c' i j => layer2_apply _ _ _ l _ (fun c' i j => pool1_apply _ l _ (fun c' i j =>
    layer1_apply _ _ _ l _ (fun i j => cor_apply c arg1 harg1 arg9 arg10 x0 i j l) c' i j) c' i j) c' i j) c' i j) c' i j).trans ?_
  have e1 : View.readAt (Elt Ideal) arg2.view (Rect.unit (s := S32x25) ![0, 0] S32x25.size inb_S32x25_S32x25_0_0).toLoadRect (harg2.unread x1) = x1 := by
    rw [View.readAt_eq_ld, Memref.IsWhole.read_unread]; exact View.ld_unit_lit _ _ (by decide)
  have e2 : View.readAt (Elt Ideal) arg3.view (Rect.unit (s := S32x1) ![0, 0] S32x1.size inb_S32x1_S32x1_0_0).toLoadRect (harg3.unread x2) = x2 := by
    rw [View.readAt_eq_ld, Memref.IsWhole.read_unread]; exact View.ld_unit_lit _ _ (by decide)
  have e4 : View.readAt (Elt Ideal) arg5.view (Rect.unit (s := S64x1) ![0, 0] S64x1.size inb_S64x1_S64x1_0_0).toLoadRect (harg5.unread x4) = x4 := by
    rw [View.readAt_eq_ld, Memref.IsWhole.read_unread]; exact View.ld_unit_lit _ _ (by decide)
  have e5 : View.readAt (Elt Ideal) arg6.view (Rect.unit (s := S10x576) ![0, 0] S10x576.size inb_S10x576_S10x576_0_0).toLoadRect (harg6.unread x5) = x5 := by
    rw [View.readAt_eq_ld, Memref.IsWhole.read_unread]; exact View.ld_unit_lit _ _ (by decide)
  have e6 : View.readAt (Elt Ideal) arg7.view (Rect.unit (s := S10x1) ![0, 0] S10x1.size inb_S10x1_S10x1_0_0).toLoadRect (harg7.unread x6) = x6 := by
    rw [View.readAt_eq_ld, Memref.IsWhole.read_unread]; exact View.ld_unit_lit _ _ (by decide)
  have e3 : ∀ (u : Fin 5) (o : Fin 64) (q : Fin 160), View.readAt (Elt Ideal) arg4.view (Rect.unit (s := S5x64x160) ![(u : ℕ), 0, 0] S1x64x160.size (w2_inb u u.2)).toLoadRect (harg4.unread x3) (ix3 0 o q)
      = x3 (ix3 u o q) := by
    intro u o q
    rw [View.readAt_eq_ld, Memref.IsWhole.read_unread]
    refine View.ld_unit_apply_of _ _ _ _ _ (ix3 u o q) fun a => ?_
    match a with
    | ⟨0, _⟩ => rfl
    | ⟨1, _⟩ => exact (Nat.zero_add _).symm
    | ⟨2, _⟩ => exact (Nat.zero_add _).symm
  simp only [e3]
  rw [e1, e2, e4, e5, e6]

end Cert.KernelIdeal.Block
-- ==== Proof.Entry.lean ====
module
public import proofs.«01_k».proof.Proof.Gen.KernelIdeal.Frame
public import Idealize.ShloMosaic.Lib.Claim
public import Idealize.ShloMosaic.Lib.Pointwise
public import Idealize.ShloMosaic.Lib.StableHlo.ReadAt
@[expose] public section
noncomputable section
/-!
The arrays that the host prepares for the kernel, read at one index in terms of the arguments as launched.
-/
namespace Cert.KernelIdeal.Block
open Idealize.ShloMosaic Idealize.ShloMosaic.TcCoe
open Cert.KernelIdeal Cert.KernelIdeal.Gen

variable (m : (l : Loc nD τ sig) → Buf (Elt Ideal) l)

/-- The images: channel 2 of each sample, samples last. -/
theorem entry_x (c : Dev nD) (i j : Fin 28) (n : Fin 8192) :
    V m c main_v3 (ix3 i j n) = m ((c.tc : Thread nD τ).loc main_arg0) (ix4 n 2 i j) := by
  unfold V V0 hostOps0
  simp only [List.flatten_cons, List.flatten_nil, List.append_nil, List.cons_append, List.nil_append]
  after_reads_at

/-- The filters of the first convolution, row and column in one. -/
theorem entry_w1 (c : Dev nD) (o : Fin 32) (q : Fin 25) :
    V m c main_v4 (ix2 o q) = m ((c.tc : Thread nD τ).loc main_arg1) (ix4 o 0 ⟨(q : ℕ) / 5, by omega⟩ ⟨(q : ℕ) % 5, by omega⟩) := by
  unfold V V0 hostOps0
  simp only [List.flatten_cons, List.flatten_nil, List.append_nil, List.cons_append, List.nil_append]
  after_reads_at

/-- The filters of the second convolution by row: column and channel in one. -/
theorem entry_w2 (c : Dev nD) (u : Fin 5) (o : Fin 64) (q : Fin 160) :
    V m c main_v6 (ix3 u o q) = m ((c.tc : Thread nD τ).loc main_arg3) (ix4 o ⟨(q : ℕ) % 32, by omega⟩ u ⟨(q : ℕ) / 32, by omega⟩) := by
  unfold V V0 hostOps0
  simp only [List.flatten_cons, List.flatten_nil, List.append_nil, List.cons_append, List.nil_append]
  after_reads_at

/-- The filters of the third convolution: row, column and channel in one. -/
theorem entry_w3 (c : Dev nD) (o : Fin 10) (q : Fin 576) :
    V m c main_v9 (ix2 o q) = m ((c.tc : Thread nD τ).loc main_arg5) (ix4 o ⟨(q : ℕ) % 64, by omega⟩ ⟨(q : ℕ) / 64 / 3, by omega⟩ ⟨(q : ℕ) / 64 % 3, by omega⟩) := by
  unfold V V0 hostOps0
  simp only [List.flatten_cons, List.flatten_nil, List.append_nil, List.cons_append, List.nil_append]
  after_reads_at

/-- The biases of the first convolution, as a column. -/
theorem entry_b1 (c : Dev nD) (o : Fin 32)  :
    V m c main_v10 (ix2 o (0 : Fin 1)) = m ((c.tc : Thread nD τ).loc main_arg2) (ix1 o) := by
  unfold V V0 hostOps0
  simp only [List.flatten_cons, List.flatten_nil, List.append_nil, List.cons_append, List.nil_append]
  after_reads_at

/-- The biases of the second convolution, as a column. -/
theorem entry_b2 (c : Dev nD) (o : Fin 64)  :
    V m c main_v11 (ix2 o (0 : Fin 1)) = m ((c.tc : Thread nD τ).loc main_arg4) (ix1 o) := by
  unfold V V0 hostOps0
  simp only [List.flatten_cons, List.flatten_nil, List.append_nil, List.cons_append, List.nil_append]
  after_reads_at

/-- The biases of the third convolution, as a column. -/
theorem entry_b3 (c : Dev nD) (o : Fin 10)  :
    V m c main_v12 (ix2 o (0 : Fin 1)) = m ((c.tc : Thread nD τ).loc main_arg6) (ix1 o) := by
  unfold V V0 hostOps0
  simp only [List.flatten_cons, List.flatten_nil, List.append_nil, List.cons_append, List.nil_append]
  after_reads_at

end Cert.KernelIdeal.Block

end
-- ==== Proof.KernelRun.lean ====
module
public import proofs.«01_k».proof.Proof.Block
public import proofs.«01_k».proof.Proof.Entry
@[expose] public section
set_option maxRecDepth 16384
noncomputable section
/-!
What a run of the kernel leaves in its result.
-/
namespace Cert.KernelIdeal.Block
open Idealize.ShloMosaic Idealize.ShloMosaic.TcCoe
open Cert.KernelIdeal Cert.KernelIdeal.Gen

variable (m : (l : Loc nD τ sig) → Buf (Elt Ideal) l)

/-- Sample `n`'s ten log-probabilities, from the seven arguments as launched. -/
def out (c : Dev nD) (n : Fin 8192) : Fin 10 → EReal :=
  Spec.net (fun a b => m ((c.tc : Thread nD τ).loc main_arg0) (ix4 n 2 a b))
    (fun (o : Fin 32) (q : Fin 1) (u v : Fin 5) => m ((c.tc : Thread nD τ).loc main_arg1) (ix4 o q u v)) (fun o => m ((c.tc : Thread nD τ).loc main_arg2) (ix1 o))
    (fun (o : Fin 64) (q : Fin 32) (u v : Fin 5) => m ((c.tc : Thread nD τ).loc main_arg3) (ix4 o q u v)) (fun o => m ((c.tc : Thread nD τ).loc main_arg4) (ix1 o))
    (fun (o : Fin 10) (q : Fin 64) (u v : Fin 3) => m ((c.tc : Thread nD τ).loc main_arg5) (ix4 o q u v)) (fun o => m ((c.tc : Thread nD τ).loc main_arg6) (ix1 o))

/-- Point `t` reads the `t`-th block of samples. -/
theorem index_x (t : Fin cfg0.N) : win0_0.index t = ![0, 0, (t : ℕ)] := (by decide +kernel : ∀ t : Fin cfg0.N, win0_0.index t = ![0, 0, (t : ℕ)]) t
/-- Point `t` writes the `t`-th block of results. -/
theorem index_out (t : Fin cfg0.N) : win0_7.index t = ![0, (t : ℕ)] := (by decide +kernel : ∀ t : Fin cfg0.N, win0_7.index t = ![0, (t : ℕ)]) t

/-- Point `t`'s block of the images: lane `l` is sample `128 t + l`. -/
theorem iblk_x (c : Dev nD) (t : Fin cfg0.N) (a b : Fin 28) (l : Fin 128) (n : Fin 8192) (hn : (n : ℕ) = (t : ℕ) * 128 + l) :
    iblk m c 0 t (ix3 a b l) = m ((c.tc : Thread nD τ).loc main_arg0) (ix4 n 2 a b) := by
  refine Eq.trans ?_ (entry_x m c a b n)
  blk_simp [iblk]
  refine congrArg (V m c main_v3) (funext fun d => Fin.ext ?_)
  match d with
  | ⟨0, _⟩ => blk_simp [index_x]
  | ⟨1, _⟩ => blk_simp [index_x]
  | ⟨2, _⟩ => blk_simp [index_x]; exact hn.symm
/-- The weights' and biases' windows hold one block each, the first. -/
theorem index_whole (t : Fin cfg0.N) : (∀ a, win0_1.index t a = 0) ∧ (∀ a, win0_2.index t a = 0) ∧ (∀ a, win0_3.index t a = 0)
    ∧ (∀ a, win0_4.index t a = 0) ∧ (∀ a, win0_5.index t a = 0) ∧ (∀ a, win0_6.index t a = 0) :=
  (by decide +kernel : ∀ t : Fin cfg0.N, (∀ a, win0_1.index t a = 0) ∧ (∀ a, win0_2.index t a = 0) ∧ (∀ a, win0_3.index t a = 0)
    ∧ (∀ a, win0_4.index t a = 0) ∧ (∀ a, win0_5.index t a = 0) ∧ (∀ a, win0_6.index t a = 0)) t

/-- Every point reads all filters of the first convolution. -/
theorem iblk_w1 (c : Dev nD) (t : Fin cfg0.N) : iblk m c 1 t = V m c main_v4 :=
  funext fun y => congrArg (V m c main_v4) (funext fun d => Fin.ext (Pipeline.Window.rect_emb_val_of_index_zero win0_1 t d ((index_whole t).1 d) y))
/-- Every point reads all biases of the first convolution. -/
theorem iblk_b1 (c : Dev nD) (t : Fin cfg0.N) : iblk m c 2 t = V m c main_v10 :=
  funext fun y => congrArg (V m c main_v10) (funext fun d => Fin.ext (Pipeline.Window.rect_emb_val_of_index_zero win0_2 t d ((index_whole t).2.1 d) y))
/-- Every point reads all filters of the second convolution. -/
theorem iblk_w2 (c : Dev nD) (t : Fin cfg0.N) : iblk m c 3 t = V m c main_v6 :=
  funext fun y => congrArg (V m c main_v6) (funext fun d => Fin.ext (Pipeline.Window.rect_emb_val_of_index_zero win0_3 t d ((index_whole t).2.2.1 d) y))
/-- Every point reads all biases of the second convolution. -/
theorem iblk_b2 (c : Dev nD) (t : Fin cfg0.N) : iblk m c 4 t = V m c main_v11 :=
  funext fun y => congrArg (V m c main_v11) (funext fun d => Fin.ext (Pipeline.Window.rect_emb_val_of_index_zero win0_4 t d ((index_whole t).2.2.2.1 d) y))
/-- Every point reads all filters of the third convolution. -/
theorem iblk_w3 (c : Dev nD) (t : Fin cfg0.N) : iblk m c 5 t = V m c main_v9 :=
  funext fun y => congrArg (V m c main_v9) (funext fun d => Fin.ext (Pipeline.Window.rect_emb_val_of_index_zero win0_5 t d ((index_whole t).2.2.2.2.1 d) y))
/-- Every point reads all biases of the third convolution. -/
theorem iblk_b3 (c : Dev nD) (t : Fin cfg0.N) : iblk m c 6 t = V m c main_v12 :=
  funext fun y => congrArg (V m c main_v12) (funext fun d => Fin.ext (Pipeline.Window.rect_emb_val_of_index_zero win0_6 t d ((index_whole t).2.2.2.2.2 d) y))

/-- Indices of equal coordinates are equal. -/
theorem ix4_congr {a b c d : ℕ} {i i' : Fin a} {j j' : Fin b} {k k' : Fin c} {l l' : Fin d} (hi : i = i') (hj : j = j') (hk : k = k') (hl : l = l') :
    (ix4 i j k l : (⟨4, ![a, b, c, d]⟩ : Shape).Idx) = ix4 i' j' k' l' := by subst hi hj hk hl; rfl

/-- What point `t` leaves: the networks of its 128 samples. -/
theorem outs_apply (c : Dev nD) (t : Fin cfg0.N) (o : Fin 10) (l : Fin 128) (n : Fin 8192) (hn : (n : ℕ) = (t : ℕ) * 128 + l) :
    outsAt0 m c t (ix2 o l) = out m c n o := by
  unfold outsAt0 out0_A_7 kernelRun0_A
  dsimp only
  rw [View.read_writes_junk_eq_canon, View.canon_cons_unit_lit]
  swap; · decide
  refine (block_apply ..).trans ?_
  unfold out
  refine congrFun ?_ o
  congr 1
  · funext a b; exact iblk_x m c t a b l n hn
  · funext o q u v
    rw [iblk_w1, entry_w1]
    refine congrArg _ (ix4_congr rfl (Subsingleton.elim _ _) (Fin.ext ?_) (Fin.ext ?_))
    · show ((u : ℕ) * 5 + v) / 5 = u; omega
    · show ((u : ℕ) * 5 + v) % 5 = v; omega
  · funext o; rw [iblk_b1, entry_b1]
  · funext o q u v
    rw [iblk_w2, entry_w2]
    refine congrArg _ (ix4_congr rfl (Fin.ext ?_) rfl (Fin.ext ?_))
    · show ((v : ℕ) * 32 + q) % 32 = q; omega
    · show ((v : ℕ) * 32 + q) / 32 = v; omega
  · funext o; rw [iblk_b2, entry_b2]
  · funext o q u v
    rw [iblk_w3, entry_w3]
    refine congrArg _ (ix4_congr rfl (Fin.ext ?_) (Fin.ext ?_) (Fin.ext ?_))
    · show (((u : ℕ) * 3 + v) * 64 + q) % 64 = q; omega
    · show (((u : ℕ) * 3 + v) * 64 + q) / 64 / 3 = u; omega
    · show (((u : ℕ) * 3 + v) * 64 + q) / 64 % 3 = v; omega
  · funext o; rw [iblk_b3, entry_b3]

/-- The array the 64 points write. -/
theorem array_out (c : Dev nD) : (dats m 0 c).arrAt 7 cfg0.N = fun i : S10x8192.Idx => out m c (i 1) (i 0) := by
  refine (dats m 0 c).arrAt_eq_of_covers 7 _ (by decide +kernel) fun t hf y => ?_
  blk_simp
  rw [after0_7]
  refine (congrArg (outsAt0 m c t) (show y = (ix2 (y 0 : Fin 10) (y 1 : Fin 128) : S10x128.Idx) from funext fun a => by match a with | ⟨0, _⟩ => rfl | ⟨1, _⟩ => rfl)).trans ?_
  refine (outs_apply m c t _ _ _ ?_).trans (congrArg (out m c _) (Fin.ext ?_))
  · blk_simp [index_out]
  · blk_simp [index_out]

/-- Every run of the kernel ends with each sample's log-probabilities in the result and the arguments as launched. -/
theorem run (g : Dev nD → PrngReg) : θ_run defs (onTc (τ := τ) (main (F := Ideal))) ⟨m, fun _ => 0, g⟩ (fun r => ∀ c : Dev nD,
      r.2.mem ((c.tc : Thread nD τ).loc main_v14) = (fun i : S8192x10.Idx => out m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  run_from Gen.run_main m g & Gen.unchanged m g
  unfold Pipeline.afterTail₀ hostOps1
  simp only [List.flatten_cons, List.flatten_nil, List.append_nil]
  after_results
  have e : Pipeline.withArrays (cfgs 0).spec c (V0 m c) (fun w => (dats m 0 c).arrAt w (cfgs 0).N) (Proc.tc.devRef main_v13)
      = fun i : S10x8192.Idx => out m c (i 1) (i 0) :=
    (Pipeline.withArrays_arr (cfgs 0).spec (by decide) c (V0 m c) (fun w => (dats m 0 c).arrAt w (cfgs 0).N) 7).trans (array_out m c)
  rw [e]
  funext i
  refine (transpose_apply _ _ _ i (ix2 (i 1) (i 0) : S10x8192.Idx) fun a => ?_).trans rfl
  match a with
  | ⟨0, _⟩ => rfl
  | ⟨1, _⟩ => rfl

end Cert.KernelIdeal.Block
-- ==== Proof.RefLayers.lean ====
module
public import proofs.«01_k».proof.Proof.Gen.ReferenceIdeal.Run
@[expose] public section
noncomputable section
/-!
The reference's arrays, one definition per layer: every array is written with the operations that the reference's host
program executes, in their order. `value_eq` says that the program's result is these layers one after the other.
-/
namespace Cert.ReferenceIdeal.Layers
open Cert.ReferenceIdeal Cert.ReferenceIdeal.Gen Idealize.ShloMosaic Idealize.ShloMosaic.TcCoe

variable {F : FTy → Type} [FloatOps F]

/-! ## The index words "start plus offset" of each layer's windows -/

/-- Words `i + u` for the windows of the correlation. -/
def at28 : IVec S28x11x1 32 :=
  broadcastInDim S28x11x1 ![0, 1] bcast_S28x11_S28x11x1_0_1 (addi (broadcastInDim S28x11 ![0, 1] bcast_S28x1_S28x11_0_1 (broadcastInDim S28x1 ![0] bcast_S28_S28x1_0 (iotaInDim S28 32 0))) (broadcastInDim S28x11 ![0, 1] bcast_S1x11_S28x11_0_1 (broadcastInDim S1x11 ![1] bcast_S11_S1x11_1 (iotaInDim S11 32 0))))

/-- Words `i + u` for the windows of the first convolution. -/
def at24 : IVec S24x5x1 32 :=
  broadcastInDim S24x5x1 ![0, 1] bcast_S24x5_S24x5x1_0_1 (addi (broadcastInDim S24x5 ![0, 1] bcast_S24x1_S24x5_0_1 (broadcastInDim S24x1 ![0] bcast_S24_S24x1_0 (iotaInDim S24 32 0))) (broadcastInDim S24x5 ![0, 1] bcast_S1x5_S24x5_0_1 (broadcastInDim S1x5 ![1] bcast_S5_S1x5_1 (iotaInDim S5 32 0))))

/-- Words `i + u` for the windows of the second convolution. -/
def at8 : IVec S8x5x1 32 :=
  broadcastInDim S8x5x1 ![0, 1] bcast_S8x5_S8x5x1_0_1 (addi (broadcastInDim S8x5 ![0, 1] bcast_S8x1_S8x5_0_1 (broadcastInDim S8x1 ![0] bcast_S8_S8x1_0 (iotaInDim S8 32 0))) (broadcastInDim S8x5 ![0, 1] bcast_S1x5_S8x5_0_1 (broadcastInDim S1x5 ![1] bcast_S5_S1x5_1 (iotaInDim S5 32 0))))

/-- Words `i + u` for the windows of the third convolution. -/
def at2 : IVec S2x3x1 32 :=
  broadcastInDim S2x3x1 ![0, 1] bcast_S2x3_S2x3x1_0_1 (addi (broadcastInDim S2x3 ![0, 1] bcast_S2x1_S2x3_0_1 (broadcastInDim S2x1 ![0] bcast_S2_S2x1_0 (iotaInDim S2 32 0))) (broadcastInDim S2x3 ![0, 1] bcast_S1x3_S2x3_0_1 (broadcastInDim S1x3 ![1] bcast_S3_S1x3_1 (iotaInDim S3 32 0))))

/-! ## The correlation -/

/-- The last of the three channels of each sample. -/
def img (x : FVec F S8192x3x28x28 .f32) : FVec F S8192x28x28 .f32 :=
  shapeCast S8192x28x28 (extractStridedSlice S8192x1x28x28 ![0, 2, 0, 0] x slices_S8192x3x28x28_S8192x1x28x28_0_2_0_0) shapeCasts_S8192x1x28x28_S8192x28x28

/-- The images with zeros around them. -/
def padded (a : FVec F S8192x28x28 .f32) : FVec F S8192x38x38 .f32 :=
  pad S8192x38x38 ![0, 5, 5] ![0, 5, 5] ![0, 0, 0] a (sitofp .f32 (constantI S_ 32 0#32)) pads_S8192x28x28_S8192x38x38_000_550_550 h_S_

/-- The centre crops. -/
def crop (a : FVec F S8192x28x28 .f32) : FVec F S8192x11x11 .f32 :=
  extractStridedSlice S8192x11x11 ![0, 8, 8] a slices_S8192x28x28_S8192x11x11_0_8_8

/-- The 11 x 11 windows of the padded images. -/
def windows0 (p : FVec F S8192x38x38 .f32) : FVec F S8192x28x11x28x11 .f32 :=
  Host.gather gather_S8192x38x28x11_S28x11x1_S8192x28x11x28x11_034_1_n_n_1_2_819212811 (Host.gather gather_S8192x38x38_S28x11x1_S8192x38x28x11_01_2_n_n_2_2_8192381 p at28) at28

/-- Each window times its sample's crop, added up. -/
def corr (w : FVec F S8192x28x11x28x11 .f32) (t : FVec F S8192x11x11 .f32) : FVec F S8192x1x28x28 .f32 :=
  broadcastInDim S8192x1x28x28 ![0, 2, 3] bcast_S8192x28x28_S8192x1x28x28_0_2_3 (Host.dotGeneral dot_S8192x28x11x28x11_S8192x11x11_S8192x28x28_24_12_13_n_0_0 none w t)

/-! ## The convolutions -/

/-- The 5 x 5 windows of the correlation. -/
def windows1 (a : FVec F S8192x1x28x28 .f32) : FVec F S8192x1x24x5x24x5 .f32 :=
  Host.gather gather_S8192x1x28x24x5_S24x5x1_S8192x1x24x5x24x5_0145_2_n_n_2_2_819211245 (Host.gather gather_S8192x1x28x28_S24x5x1_S8192x1x28x24x5_012_3_n_n_3_2_81921281 a at24) at24

/-- The first convolution and its bias. -/
def conv1 (W : FVec F S32x1x5x5 .f32) (b : FVec F S32 .f32) (w : FVec F S8192x1x24x5x24x5 .f32) : FVec F S8192x32x24x24 .f32 :=
  addf (transpose S8192x32x24x24 [1, 0, 2, 3] (Host.dotGeneral dot_S32x1x5x5_S8192x1x24x5x24x5_S32x8192x24x24_123_135_0_024_n_n none W w) transposes_S32x8192x24x24_S8192x32x24x24_1_0_2_3) (broadcastInDim S8192x32x24x24 ![0, 1, 2, 3] bcast_S1x32x1x1_S8192x32x24x24_0_1_2_3 (broadcastInDim S1x32x1x1 ![1] bcast_S32_S1x32x1x1_1 b))

/-- The positive part of the first convolution. -/
def relu1 (h : FVec F S8192x32x24x24 .f32) : FVec F S8192x32x24x24 .f32 :=
  maximumf h (broadcastInDim S8192x32x24x24 ![] bcast_S_S8192x32x24x24 (constant S_ .f32 0x00000000#32))

/-- The first pooling. -/
def pool1 (y : FVec F S8192x32x24x24 .f32) : FVec F S8192x32x12x12 .f32 :=
  Host.reduceWindow FloatOps.maximumf ![1, 1, 2, 2] ![1, 1, 2, 2] ![0, 0, 0, 0] ![0, 0, 0, 0] y (constant S_ .f32 0xFF800000#32) reduceWindows_S8192x32x24x24_S8192x32x12x12_w1s1p0_0_w1s1p0_0_w2s2p0_0_w2s2p0_0 h_S_

/-- The 5 x 5 windows of the first pooling. -/
def windows2 (a : FVec F S8192x32x12x12 .f32) : FVec F S8192x32x8x5x8x5 .f32 :=
  Host.gather gather_S8192x32x12x8x5_S8x5x1_S8192x32x8x5x8x5_0145_2_n_n_2_2_819232185 (Host.gather gather_S8192x32x12x12_S8x5x1_S8192x32x12x8x5_012_3_n_n_3_2_819232121 a at8) at8

/-- The second convolution and its bias. -/
def conv2 (W : FVec F S64x32x5x5 .f32) (b : FVec F S64 .f32) (w : FVec F S8192x32x8x5x8x5 .f32) : FVec F S8192x64x8x8 .f32 :=
  addf (transpose S8192x64x8x8 [1, 0, 2, 3] (Host.dotGeneral dot_S64x32x5x5_S8192x32x8x5x8x5_S64x8192x8x8_123_135_0_024_n_n none W w) transposes_S64x8192x8x8_S8192x64x8x8_1_0_2_3) (broadcastInDim S8192x64x8x8 ![0, 1, 2, 3] bcast_S1x64x1x1_S8192x64x8x8_0_1_2_3 (broadcastInDim S1x64x1x1 ![1] bcast_S64_S1x64x1x1_1 b))

/-- The positive part of the second convolution. -/
def relu2 (h : FVec F S8192x64x8x8 .f32) : FVec F S8192x64x8x8 .f32 :=
  maximumf h (broadcastInDim S8192x64x8x8 ![] bcast_S_S8192x64x8x8 (constant S_ .f32 0x00000000#32))

/-- The second pooling. -/
def pool2 (y : FVec F S8192x64x8x8 .f32) : FVec F S8192x64x4x4 .f32 :=
  Host.reduceWindow FloatOps.maximumf ![1, 1, 2, 2] ![1, 1, 2, 2] ![0, 0, 0, 0] ![0, 0, 0, 0] y (constant S_ .f32 0xFF800000#32) reduceWindows_S8192x64x8x8_S8192x64x4x4_w1s1p0_0_w1s1p0_0_w2s2p0_0_w2s2p0_0 h_S_

/-- The 3 x 3 windows of the second pooling. -/
def windows3 (a : FVec F S8192x64x4x4 .f32) : FVec F S8192x64x2x3x2x3 .f32 :=
  Host.gather gather_S8192x64x4x2x3_S2x3x1_S8192x64x2x3x2x3_0145_2_n_n_2_2_819264123 (Host.gather gather_S8192x64x4x4_S2x3x1_S8192x64x4x2x3_012_3_n_n_3_2_81926441 a at2) at2

/-- The third convolution and its bias. -/
def conv3 (W : FVec F S10x64x3x3 .f32) (b : FVec F S10 .f32) (w : FVec F S8192x64x2x3x2x3 .f32) : FVec F S8192x10x2x2 .f32 :=
  addf (transpose S8192x10x2x2 [1, 0, 2, 3] (Host.dotGeneral dot_S10x64x3x3_S8192x64x2x3x2x3_S10x8192x2x2_123_135_0_024_n_n none W w) transposes_S10x8192x2x2_S8192x10x2x2_1_0_2_3) (broadcastInDim S8192x10x2x2 ![0, 1, 2, 3] bcast_S1x10x1x1_S8192x10x2x2_0_1_2_3 (broadcastInDim S1x10x1x1 ![1] bcast_S10_S1x10x1x1_1 b))

/-! ## The mean and the logarithm of the softmax -/

/-- The mean of the positive part of the third convolution. -/
def gap (h : FVec F S8192x10x2x2 .f32) : FVec F S8192x10 .f32 :=
  Host.divf (Host.reduceAdd (maximumf h (broadcastInDim S8192x10x2x2 ![] bcast_S_S8192x10x2x2 (constant S_ .f32 0x00000000#32))) (constant S_ .f32 0x00000000#32) reducesTo_S8192x10x2x2_S8192x10_d2_3 h_S_) (broadcastInDim S8192x10 ![] bcast_S_S8192x10 (constant S_ .f32 0x40800000#32))

/-- Each sample's ten numbers less their greatest. -/
def shift (g : FVec F S8192x10 .f32) : FVec F S8192x10 .f32 :=
  subf g (broadcastInDim S8192x10 ![0, 1] bcast_S8192x1_S8192x10_0_1 (broadcastInDim S8192x1 ![0] bcast_S8192_S8192x1_0 (maximumf (broadcastInDim S8192 ![] bcast_S_S8192 (constant S_ .f32 0xFF800000#32)) (Host.reduce FloatOps.maximumf g (constant S_ .f32 0xFF800000#32) reducesTo_S8192x10_S8192_d1 h_S_))))

/-- Less the logarithm of the sum of the exponentials. -/
def logsm (e : FVec F S8192x10 .f32) : FVec F S8192x10 .f32 :=
  subf e (broadcastInDim S8192x10 ![0, 1] bcast_S8192x1_S8192x10_0_1 (Host.log (broadcastInDim S8192x1 ![0] bcast_S8192_S8192x1_0 (Host.reduceAdd (Host.exp e) (constant S_ .f32 0x00000000#32) reducesTo_S8192x10_S8192_d1 h_S_))))

/-- The layers one after the other. -/
def value (x : FVec F S8192x3x28x28 .f32) (W1 : FVec F S32x1x5x5 .f32) (b1 : FVec F S32 .f32) (W2 : FVec F S64x32x5x5 .f32)
    (b2 : FVec F S64 .f32) (W3 : FVec F S10x64x3x3 .f32) (b3 : FVec F S10 .f32) : FVec F S8192x10 .f32 :=
  logsm (shift (gap (conv3 W3 b3 (windows3 (pool2 (relu2 (conv2 W2 b2 (windows2 (pool1 (relu1 (conv1 W1 b1 (windows1 (corr (windows0 (padded (img x))) (crop (img x)))))))))))))))

set_option maxRecDepth 8192 in
/-- The reference program's result is the layers one after the other. -/
theorem value_eq (m : (ℓ : Loc nD τ sig) → Buf (Elt F) ℓ) (c : Dev nD) :
    Value.res_main_v95 m c = value (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := rfl

end Cert.ReferenceIdeal.Layers

end
-- ==== Proof.RefWindows.lean ====
module
public import Idealize.ShloMosaic.PureOps.Ideal
public import Idealize.ShloMosaic.Lib.Pointwise
public import Idealize.ShloMosaic.Lib.ValueIdx
@[expose] public section
noncomputable section
/-!
Reading an array at "start plus offset" positions: what a gather along one axis of an array computes when the word at
`(i, u)` of its index array is a position inside that axis. One lemma per axis the reference reads along.
-/
namespace Cert.RefWindows
open Idealize.ShloMosaic
variable {α : Type}

/-- A gather reads the operand at the index whose coordinates are start plus batch plus offset coordinates. -/
theorem gather_at {s si t : Shape} {w : ℕ} (d : GatherDims s si t) (x : s.Idx → α) (idx : IVec si w) (y : t.Idx) (k : s.Idx)
    (hk : ∀ a, d.start y idx a + d.batchCoord y a + d.offCoord y a = (k a : ℕ)) : Host.gather d x idx y = x k := by
  unfold Host.gather
  exact congrArg x (funext fun a => Fin.ext (hk a))

/-- On the axis that the index words address, the slice starts at the position `p` that the word names. -/
theorem start_at {s t : Shape} {n k : ℕ} (d : GatherDims s ⟨3, ![n, k, 1]⟩ t) (y : t.Idx) (idx : IVec ⟨3, ![n, k, 1]⟩ 32) (a : Fin s.rank)
    (ha : a ∈ d.startIndexMap) (z : (⟨3, ![n, k, 1]⟩ : Shape).Idx)
    (hz : ∀ e, (d.siIdx y ⟨d.startIndexMap.idxOf a, List.idxOf_lt_length_iff.2 ha⟩ e : ℕ) = z e)
    {N : ℕ} (hN : s.size a - d.sliceSizes a = N - 1) (p : Fin N) (hp : (idx z).toInt = (p : ℤ)) : d.start y idx a = p := by
  unfold GatherDims.start
  rw [dif_pos ha, show d.siIdx y _ = z from funext fun e => Fin.ext (hz e), hp, hN]
  have := p.isLt
  omega

/-- Dimension numbers of a read along the last of four axes. -/
abbrev lastDims (B C H W n k : ℕ)
    (wf : GatherDims.WF ⟨4, ![B, C, H, W]⟩ ⟨3, ![n, k, 1]⟩ ⟨5, ![B, C, H, n, k]⟩ [0, 1, 2] [3] [] [3] [] 2 ![B, C, H, 1]) :
    GatherDims ⟨4, ![B, C, H, W]⟩ ⟨3, ![n, k, 1]⟩ ⟨5, ![B, C, H, n, k]⟩ where
  offsetDims := [0, 1, 2]
  collapsedSliceDims := [3]
  operandBatchingDims := []
  startIndicesBatchingDims := []
  startIndexMap := [3]
  indexVectorDim := 2
  sliceSizes := ![B, C, H, 1]
  wf := wf

/-- Result `(b, c, h, i, u)` is the operand at `(b, c, h, p)`, `p` the position that the word at `(i, u)` names. -/
theorem last_apply {B C H W n k : ℕ} (wf) (x : (⟨4, ![B, C, H, W]⟩ : Shape).Idx → α) (idx : IVec ⟨3, ![n, k, 1]⟩ 32)
    (b : Fin B) (c : Fin C) (h : Fin H) (i : Fin n) (u : Fin k) (p : Fin W)
    (hp : (idx (ix3 i u (0 : Fin 1))).toInt = (p : ℤ)) :
    Host.gather (lastDims B C H W n k wf) x idx (ix5 b c h i u) = x (ix4 b c h p) := by
  refine gather_at _ _ _ _ _ fun a => ?_
  match a with
  | ⟨0, _⟩ => exact Nat.zero_add _
  | ⟨1, _⟩ => exact Nat.zero_add _
  | ⟨2, _⟩ => exact Nat.zero_add _
  | ⟨3, ha⟩ =>
    exact congrArg (· + 0) (start_at (lastDims B C H W n k wf) (ix5 b c h i u) idx ⟨3, ha⟩ (List.mem_singleton.mpr rfl) (ix3 i u (0 : Fin 1))
      (fun e => match e with | ⟨0, _⟩ => rfl | ⟨1, _⟩ => rfl | ⟨2, _⟩ => rfl) rfl p hp)

/-- Dimension numbers of a read along the third of five axes. -/
abbrev rowDims (B C H n k m l : ℕ)
    (wf : GatherDims.WF ⟨5, ![B, C, H, n, k]⟩ ⟨3, ![m, l, 1]⟩ ⟨6, ![B, C, m, l, n, k]⟩ [0, 1, 4, 5] [2] [] [2] [] 2 ![B, C, 1, n, k]) :
    GatherDims ⟨5, ![B, C, H, n, k]⟩ ⟨3, ![m, l, 1]⟩ ⟨6, ![B, C, m, l, n, k]⟩ where
  offsetDims := [0, 1, 4, 5]
  collapsedSliceDims := [2]
  operandBatchingDims := []
  startIndicesBatchingDims := []
  startIndexMap := [2]
  indexVectorDim := 2
  sliceSizes := ![B, C, 1, n, k]
  wf := wf

/-- Result `(b, c, i, u, j, v)` is the operand at `(b, c, p, j, v)`, `p` the position that the word at `(i, u)` names. -/
theorem row_apply {B C H n k m l : ℕ} (wf) (x : (⟨5, ![B, C, H, n, k]⟩ : Shape).Idx → α) (idx : IVec ⟨3, ![m, l, 1]⟩ 32)
    (b : Fin B) (c : Fin C) (i : Fin m) (u : Fin l) (j : Fin n) (v : Fin k) (p : Fin H)
    (hp : (idx (ix3 i u (0 : Fin 1))).toInt = (p : ℤ)) :
    Host.gather (rowDims B C H n k m l wf) x idx (ix6 b c i u j v) = x (ix5 b c p j v) := by
  refine gather_at _ _ _ _ _ fun a => ?_
  match a with
  | ⟨0, _⟩ => exact Nat.zero_add _
  | ⟨1, _⟩ => exact Nat.zero_add _
  | ⟨2, h⟩ =>
    exact congrArg (· + 0) (start_at (rowDims B C H n k m l wf) (ix6 b c i u j v) idx ⟨2, h⟩ (List.mem_singleton.mpr rfl) (ix3 i u (0 : Fin 1))
      (fun e => match e with | ⟨0, _⟩ => rfl | ⟨1, _⟩ => rfl | ⟨2, _⟩ => rfl) rfl p hp)
  | ⟨3, _⟩ => exact Nat.zero_add _
  | ⟨4, _⟩ => exact Nat.zero_add _

/-- Dimension numbers of a read along the last of three axes. -/
abbrev last3Dims (B H W n k : ℕ)
    (wf : GatherDims.WF ⟨3, ![B, H, W]⟩ ⟨3, ![n, k, 1]⟩ ⟨4, ![B, H, n, k]⟩ [0, 1] [2] [] [2] [] 2 ![B, H, 1]) :
    GatherDims ⟨3, ![B, H, W]⟩ ⟨3, ![n, k, 1]⟩ ⟨4, ![B, H, n, k]⟩ where
  offsetDims := [0, 1]
  collapsedSliceDims := [2]
  operandBatchingDims := []
  startIndicesBatchingDims := []
  startIndexMap := [2]
  indexVectorDim := 2
  sliceSizes := ![B, H, 1]
  wf := wf

/-- Result `(b, h, i, u)` is the operand at `(b, h, p)`, `p` the position that the word at `(i, u)` names. -/
theorem last3_apply {B H W n k : ℕ} (wf) (x : (⟨3, ![B, H, W]⟩ : Shape).Idx → α) (idx : IVec ⟨3, ![n, k, 1]⟩ 32)
    (b : Fin B) (h : Fin H) (i : Fin n) (u : Fin k) (p : Fin W)
    (hp : (idx (ix3 i u (0 : Fin 1))).toInt = (p : ℤ)) :
    Host.gather (last3Dims B H W n k wf) x idx (ix4 b h i u) = x (ix3 b h p) := by
  refine gather_at _ _ _ _ _ fun a => ?_
  match a with
  | ⟨0, _⟩ => exact Nat.zero_add _
  | ⟨1, _⟩ => exact Nat.zero_add _
  | ⟨2, ha⟩ =>
    exact congrArg (· + 0) (start_at (last3Dims B H W n k wf) (ix4 b h i u) idx ⟨2, ha⟩ (List.mem_singleton.mpr rfl) (ix3 i u (0 : Fin 1))
      (fun e => match e with | ⟨0, _⟩ => rfl | ⟨1, _⟩ => rfl | ⟨2, _⟩ => rfl) rfl p hp)

/-- Dimension numbers of a read along the second of four axes. -/
abbrev row3Dims (B H n k m l : ℕ)
    (wf : GatherDims.WF ⟨4, ![B, H, n, k]⟩ ⟨3, ![m, l, 1]⟩ ⟨5, ![B, m, l, n, k]⟩ [0, 3, 4] [1] [] [1] [] 2 ![B, 1, n, k]) :
    GatherDims ⟨4, ![B, H, n, k]⟩ ⟨3, ![m, l, 1]⟩ ⟨5, ![B, m, l, n, k]⟩ where
  offsetDims := [0, 3, 4]
  collapsedSliceDims := [1]
  operandBatchingDims := []
  startIndicesBatchingDims := []
  startIndexMap := [1]
  indexVectorDim := 2
  sliceSizes := ![B, 1, n, k]
  wf := wf

/-- Result `(b, i, u, j, v)` is the operand at `(b, p, j, v)`, `p` the position that the word at `(i, u)` names. -/
theorem row3_apply {B H n k m l : ℕ} (wf) (x : (⟨4, ![B, H, n, k]⟩ : Shape).Idx → α) (idx : IVec ⟨3, ![m, l, 1]⟩ 32)
    (b : Fin B) (i : Fin m) (u : Fin l) (j : Fin n) (v : Fin k) (p : Fin H)
    (hp : (idx (ix3 i u (0 : Fin 1))).toInt = (p : ℤ)) :
    Host.gather (row3Dims B H n k m l wf) x idx (ix5 b i u j v) = x (ix4 b p j v) := by
  refine gather_at _ _ _ _ _ fun a => ?_
  match a with
  | ⟨0, _⟩ => exact Nat.zero_add _
  | ⟨1, h⟩ =>
    exact congrArg (· + 0) (start_at (row3Dims B H n k m l wf) (ix5 b i u j v) idx ⟨1, h⟩ (List.mem_singleton.mpr rfl) (ix3 i u (0 : Fin 1))
      (fun e => match e with | ⟨0, _⟩ => rfl | ⟨1, _⟩ => rfl | ⟨2, _⟩ => rfl) rfl p hp)
  | ⟨2, _⟩ => exact Nat.zero_add _
  | ⟨3, _⟩ => exact Nat.zero_add _

end Cert.RefWindows

end
-- ==== Proof.RefSums.lean ====
module
public import Idealize.ShloMosaic.PureOps.Ideal
public import Idealize.ShloMosaic.PureOps.Reduce
public import Idealize.ShloMosaic.Lib.Pointwise
public import Idealize.ShloMosaic.Lib.ValueIdx
public import Idealize.ShloMosaic.Lib.KernelVsHost
@[expose] public section
noncomputable section
/-!
The two contractions that the reference's convolutions and poolings are: a dot of filters with windows over three axes,
and a maximum over the positions of a 2 x 2 window.
-/
namespace Cert.RefSums
open Idealize.ShloMosaic

/-- Dimension numbers of a dot of `O` filters with the `k x k` windows of `B` arrays of `C` channels. -/
abbrev convDims (O B C n k : ℕ)
    (wf : DotDims.WF ⟨4, ![O, C, k, k]⟩ ⟨6, ![B, C, n, k, n, k]⟩ ⟨4, ![O, B, n, n]⟩ [1, 2, 3] [1, 3, 5] [0] [0, 2, 4] [] []) :
    DotDims ⟨4, ![O, C, k, k]⟩ ⟨6, ![B, C, n, k, n, k]⟩ ⟨4, ![O, B, n, n]⟩ where
  lhsContracting := [1, 2, 3]
  rhsContracting := [1, 3, 5]
  lhsNonContracting := [0]
  rhsNonContracting := [0, 2, 4]
  lhsBatch := []
  rhsBatch := []
  wf := wf

/-- A position along the three contracted axes is a channel, a row and a column of the filter. -/
def tap {O B C n k : ℕ} (wf) : (convDims O B C n k wf).contr.Idx ≃ Fin C × Fin k × Fin k where
  toFun q := (q (0 : Fin 3), q (1 : Fin 3), q (2 : Fin 3))
  invFun p := fun (a : Fin 3) => match a with | ⟨0, _⟩ => p.1 | ⟨1, _⟩ => p.2.1 | ⟨2, _⟩ => p.2.2
  left_inv q := funext fun (a : Fin 3) => match a with | ⟨0, _⟩ => rfl | ⟨1, _⟩ => rfl | ⟨2, _⟩ => rfl
  right_inv _ := rfl

/-- The dot of filters with windows is the sum over channel, row and column of filter times window. -/
theorem conv_dot {O B C n k : ℕ} (wf) (l : FVec Ideal ⟨4, ![O, C, k, k]⟩ .f32) (r : FVec Ideal ⟨6, ![B, C, n, k, n, k]⟩ .f32)
    (o : Fin O) (b : Fin B) (i j : Fin n) :
    Host.dotGeneral (convDims O B C n k wf) none l r (ix4 o b i j)
    = ∑ c : Fin C, ∑ u : Fin k, ∑ v : Fin k, l (ix4 o c u v) * r (ix6 b c i u j v) := by
  show (0 : EReal) + ∑ q : (convDims O B C n k wf).contr.Idx, l ((convDims O B C n k wf).lhsIdx (ix4 o b i j) q) * r ((convDims O B C n k wf).rhsIdx (ix4 o b i j) q) = _
  rw [zero_add, ← Equiv.sum_comp (tap wf).symm, Fintype.sum_prod_type]
  refine Finset.sum_congr rfl fun c _ => ?_
  rw [Fintype.sum_prod_type]
  refine Finset.sum_congr rfl fun u _ => Finset.sum_congr rfl fun v _ => ?_
  congr 2
  · funext a
    refine Fin.ext ?_
    match a with
    | ⟨0, _⟩ => rfl
    | ⟨1, _⟩ => rfl
    | ⟨2, _⟩ => rfl
    | ⟨3, _⟩ => rfl
  · funext a
    refine Fin.ext ?_
    match a with
    | ⟨0, _⟩ => rfl
    | ⟨1, _⟩ => rfl
    | ⟨2, _⟩ => rfl
    | ⟨3, _⟩ => rfl
    | ⟨4, _⟩ => rfl
    | ⟨5, _⟩ => rfl

/-- The `1 x 1 x 2 x 2` window of a pooling. -/
abbrev square : Shape := ⟨4, ![1, 1, 2, 2]⟩

/-- The four positions of the window in row-major order: as rows and columns of the square. -/
theorem square_at (q : Fin 4) (a : Fin 4) :
    (square.rowMajor.symm q a : ℕ) = (![0, 0, (q : ℕ) / 2, (q : ℕ) % 2] : Fin 4 → ℕ) a := by
  revert q a
  decide

/-- One step of the fold of a window without padding: the position is inside the operand. -/
theorem step_inside {α : Type} {s : Shape} (f : α → α → α) (lo p : Fin s.rank → ℕ) (x : s.Idx → α) (v r : α) (i : s.Idx)
    [Decidable (∀ a, lo a ≤ p a ∧ p a - lo a < s.size a)] (h : ∀ a, p a = lo a + i a) :
    f r (if hin : ∀ a, lo a ≤ p a ∧ p a - lo a < s.size a then x (fun a => ⟨p a - lo a, (hin a).2⟩) else v) = f r (x i) := by
  rw [dif_pos fun a => ⟨by rw [h]; exact Nat.le_add_right _ _, by rw [h, Nat.add_sub_cancel_left]; exact (i a).2⟩]
  congr 2
  funext a
  exact Fin.ext (by show p a - lo a = i a; rw [h, Nat.add_sub_cancel_left])

/-- The maximum over `2 x 2` windows with stride two is the maximum of the four positions of the square. -/
theorem max_square {B C m n : ℕ} (x : FVec Ideal ⟨4, ![B, C, n, n]⟩ .f32) {u : Shape} (init : FVec Ideal u .f32)
    (h : (⟨4, ![B, C, n, n]⟩ : Shape).ReduceWindows ![1, 1, 2, 2] ![1, 1, 2, 2] ![0, 0, 0, 0] ![0, 0, 0, 0] ⟨4, ![B, C, m, m]⟩)
    (hu : 0 < u.numel) (hi : init (Shape.Idx.first hu) = (⊥ : EReal)) (hn : n = 2 * m) (b : Fin B) (c : Fin C) (i j : Fin m) :
    Host.reduceWindow FloatOps.maximumf ![1, 1, 2, 2] ![1, 1, 2, 2] ![0, 0, 0, 0] ![0, 0, 0, 0] x init h hu (ix4 b c i j)
    = max (max (x (ix4 b c ⟨2 * i, by omega⟩ ⟨2 * j, by omega⟩) : EReal) (x (ix4 b c ⟨2 * i + 1, by omega⟩ ⟨2 * j, by omega⟩)))
        (max (x (ix4 b c ⟨2 * i, by omega⟩ ⟨2 * j + 1, by omega⟩)) (x (ix4 b c ⟨2 * i + 1, by omega⟩ ⟨2 * j + 1, by omega⟩))) := by
  have spot : ∀ (q a : Fin 4), (ix4 b c i j a : ℕ) * (![1, 1, 2, 2] : Fin 4 → ℕ) a + (square.rowMajor.symm q a : ℕ)
      = (![0, 0, 0, 0] : Fin 4 → ℕ) a + (ix4 b c (⟨2 * i + (q : ℕ) / 2, by omega⟩ : Fin n) (⟨2 * j + (q : ℕ) % 2, by omega⟩ : Fin n) a : ℕ) := by
    intro q a
    rw [square_at]
    match a with
    | ⟨0, _⟩ => show (b : ℕ) * 1 + 0 = 0 + b; omega
    | ⟨1, _⟩ => show (c : ℕ) * 1 + 0 = 0 + c; omega
    | ⟨2, _⟩ => show (i : ℕ) * 2 + (q : ℕ) / 2 = 0 + (2 * i + (q : ℕ) / 2); omega
    | ⟨3, _⟩ => show (j : ℕ) * 2 + (q : ℕ) % 2 = 0 + (2 * j + (q : ℕ) % 2); omega
  have step := fun (q : Fin 4) (r : EReal) inst => @step_inside EReal ⟨4, ![B, C, n, n]⟩ max ![0, 0, 0, 0]
    (fun a : Fin 4 => (ix4 b c i j a : ℕ) * (![1, 1, 2, 2] : Fin 4 → ℕ) a + (square.rowMajor.symm q a : ℕ)) x (init (Shape.Idx.first hu)) r
    (ix4 b c (⟨2 * i + (q : ℕ) / 2, by omega⟩ : Fin n) (⟨2 * j + (q : ℕ) % 2, by omega⟩ : Fin n)) inst (spot q)
  have fold : ∀ (g : EReal → Fin square.numel → EReal) (v : EReal),
      (List.finRange square.numel).foldl g v = g (g (g (g v (0 : Fin 4)) (1 : Fin 4)) (2 : Fin 4)) (3 : Fin 4) := fun _ _ => rfl
  unfold Host.reduceWindow
  refine (fold _ _).trans ?_
  refine (step 3 _ _).trans ?_
  refine (congrArg (max · _) ((step 2 _ _).trans (congrArg (max · _) ((step 1 _ _).trans
    (congrArg (max · _) ((step 0 _ _).trans ((congrArg (max · _) hi).trans (max_bot_left _)))))))).trans ?_
  show max (max (max (x (ix4 b c ⟨2 * i + 0, _⟩ ⟨2 * j + 0, _⟩) : EReal) (x (ix4 b c ⟨2 * i + 0, _⟩ ⟨2 * j + 1, _⟩))) (x (ix4 b c ⟨2 * i + 1, _⟩ ⟨2 * j + 0, _⟩))) (x (ix4 b c ⟨2 * i + 1, _⟩ ⟨2 * j + 1, _⟩)) = _
  simp only [Nat.add_zero]
  exact (congrArg (max · _) (max_right_comm _ _ _)).trans (max_assoc _ _ _)

end Cert.RefSums

end
-- ==== Proof.RefRead.lean ====
module
public import proofs.«01_k».proof.Proof.RefLayers
public import proofs.«01_k».proof.Proof.RefWindows
public import proofs.«01_k».proof.Proof.RefSums
public import proofs.«01_k».proof.Proof.Spec
public import Idealize.ShloMosaic.Lib.Pointwise
public import Idealize.ShloMosaic.Lib.KernelVsHost
@[expose] public section
noncomputable section
/-!
What each layer of the reference computes, read at one index, on extended reals.
-/
namespace Cert.ReferenceIdeal.Layers
open Cert.ReferenceIdeal Cert.ReferenceIdeal.Gen Idealize.ShloMosaic Idealize.ShloMosaic.TcCoe

/-! ## The index words -/

/-- The sum of the words of two small numbers is the word of their sum. -/
theorem word_add (a b : ℕ) (h : a + b < 1000) : (IntOp.addi (BitVec.ofNat 32 a) (BitVec.ofNat 32 b)).toInt = ((a + b : ℕ) : ℤ) := by
  show (BitVec.ofNat 32 a + BitVec.ofNat 32 b).toInt = _
  rw [← BitVec.ofNat_add, BitVec.toInt_eq_toNat_of_lt (by rw [BitVec.toNat_ofNat]; omega), BitVec.toNat_ofNat]
  omega

/-- The word at `(i, u)` of the correlation's index array is `i + u`. -/
theorem at28_apply (i : Fin 28) (u : Fin 11) (p : Fin 38) (hp : (p : ℕ) = i + u) : (at28 (ix3 i u (0 : Fin 1))).toInt = (p : ℤ) := by
  rw [hp, ← word_add _ _ (by omega)]
  unfold at28
  pointwise

/-- The word at `(i, u)` of the first convolution's index array is `i + u`. -/
theorem at24_apply (i : Fin 24) (u : Fin 5) (p : Fin 28) (hp : (p : ℕ) = i + u) : (at24 (ix3 i u (0 : Fin 1))).toInt = (p : ℤ) := by
  rw [hp, ← word_add _ _ (by omega)]
  unfold at24
  pointwise

/-- The word at `(i, u)` of the second convolution's index array is `i + u`. -/
theorem at8_apply (i : Fin 8) (u : Fin 5) (p : Fin 12) (hp : (p : ℕ) = i + u) : (at8 (ix3 i u (0 : Fin 1))).toInt = (p : ℤ) := by
  rw [hp, ← word_add _ _ (by omega)]
  unfold at8
  pointwise

/-- The word at `(i, u)` of the third convolution's index array is `i + u`. -/
theorem at2_apply (i : Fin 2) (u : Fin 3) (p : Fin 4) (hp : (p : ℕ) = i + u) : (at2 (ix3 i u (0 : Fin 1))).toInt = (p : ℤ) := by
  rw [hp, ← word_add _ _ (by omega)]
  unfold at2
  pointwise

/-! ## The windows -/

/-- Window `(i, j)` of a padded image at `(u, v)` is its position `(i + u, j + v)`. -/
theorem windows0_apply (p : FVec Ideal S8192x38x38 .f32) (n : Fin 8192) (i : Fin 28) (u : Fin 11) (j : Fin 28) (v : Fin 11) :
    windows0 p (ix5 n i u j v) = p (ix3 n ⟨i + u, by omega⟩ ⟨j + v, by omega⟩) :=
  (RefWindows.row3_apply gather_S8192x38x28x11_S28x11x1_S8192x28x11x28x11_034_1_n_n_1_2_819212811_wf _ _ n i u j v ⟨i + u, by omega⟩ (at28_apply i u _ rfl)).trans
    (RefWindows.last3_apply gather_S8192x38x38_S28x11x1_S8192x38x28x11_01_2_n_n_2_2_8192381_wf _ _ n _ j v ⟨j + v, by omega⟩ (at28_apply j v _ rfl))

/-- Window `(i, j)` of the correlation at `(u, v)` is its position `(i + u, j + v)`. -/
theorem windows1_apply (a : FVec Ideal S8192x1x28x28 .f32) (n : Fin 8192) (c : Fin 1) (i : Fin 24) (u : Fin 5) (j : Fin 24) (v : Fin 5) :
    windows1 a (ix6 n c i u j v) = a (ix4 n c ⟨i + u, by omega⟩ ⟨j + v, by omega⟩) :=
  (RefWindows.row_apply gather_S8192x1x28x24x5_S24x5x1_S8192x1x24x5x24x5_0145_2_n_n_2_2_819211245_wf _ _ n c i u j v ⟨i + u, by omega⟩ (at24_apply i u _ rfl)).trans
    (RefWindows.last_apply gather_S8192x1x28x28_S24x5x1_S8192x1x28x24x5_012_3_n_n_3_2_81921281_wf _ _ n c _ j v ⟨j + v, by omega⟩ (at24_apply j v _ rfl))

/-- Window `(i, j)` of the first pooling at `(u, v)` is its position `(i + u, j + v)`. -/
theorem windows2_apply (a : FVec Ideal S8192x32x12x12 .f32) (n : Fin 8192) (c : Fin 32) (i : Fin 8) (u : Fin 5) (j : Fin 8) (v : Fin 5) :
    windows2 a (ix6 n c i u j v) = a (ix4 n c ⟨i + u, by omega⟩ ⟨j + v, by omega⟩) :=
  (RefWindows.row_apply gather_S8192x32x12x8x5_S8x5x1_S8192x32x8x5x8x5_0145_2_n_n_2_2_819232185_wf _ _ n c i u j v ⟨i + u, by omega⟩ (at8_apply i u _ rfl)).trans
    (RefWindows.last_apply gather_S8192x32x12x12_S8x5x1_S8192x32x12x8x5_012_3_n_n_3_2_819232121_wf _ _ n c _ j v ⟨j + v, by omega⟩ (at8_apply j v _ rfl))

/-- Window `(i, j)` of the second pooling at `(u, v)` is its position `(i + u, j + v)`. -/
theorem windows3_apply (a : FVec Ideal S8192x64x4x4 .f32) (n : Fin 8192) (c : Fin 64) (i : Fin 2) (u : Fin 3) (j : Fin 2) (v : Fin 3) :
    windows3 a (ix6 n c i u j v) = a (ix4 n c ⟨i + u, by omega⟩ ⟨j + v, by omega⟩) :=
  (RefWindows.row_apply gather_S8192x64x4x2x3_S2x3x1_S8192x64x2x3x2x3_0145_2_n_n_2_2_819264123_wf _ _ n c i u j v ⟨i + u, by omega⟩ (at2_apply i u _ rfl)).trans
    (RefWindows.last_apply gather_S8192x64x4x4_S2x3x1_S8192x64x4x2x3_012_3_n_n_3_2_81926441_wf _ _ n c _ j v ⟨j + v, by omega⟩ (at2_apply j v _ rfl))

/-! ## The correlation -/

/-- The image of sample `n` is its channel 2. -/
theorem img_apply (x : FVec Ideal S8192x3x28x28 .f32) (n : Fin 8192) (i j : Fin 28) : img x (ix3 n i j) = x (ix4 n (2 : Fin 3) i j) := by
  unfold img
  pointwise

/-- The crop starts at `(8, 8)`. -/
theorem crop_apply (a : FVec Ideal S8192x28x28 .f32) (n : Fin 8192) (u v : Fin 11) :
    crop a (ix3 n u v) = a (ix3 n ⟨u + 8, by omega⟩ ⟨v + 8, by omega⟩) := by
  unfold crop
  refine extractStridedSlice_apply _ _ _ _ _ fun a => ?_
  match a with
  | ⟨0, _⟩ => exact (Nat.zero_add _).symm
  | ⟨1, _⟩ => exact Nat.add_comm _ _
  | ⟨2, _⟩ => exact Nat.add_comm _ _

/-- The number of the word zero is zero. -/
theorem zero_word : (FloatOps.sitofp FTy.f32 0#32 : Ideal .f32) = (0 : EReal) := by
  show (((0#32 : BitVec 32).toInt : ℝ) : EReal) = 0
  simp

/-- The padded image at a position. -/
theorem padded_apply (a : FVec Ideal S8192x28x28 .f32) (n : Fin 8192) (i j : Fin 38) :
    padded a (ix3 n i j) = Spec.pad (fun p q => a (ix3 n p q)) i j := by
  unfold padded Spec.pad
  split
  · rename_i h
    refine pad_apply_of_inside _ _ _ _ _ _ _ _ (ix3 n ⟨i - 5, by omega⟩ ⟨j - 5, by omega⟩) fun a => ?_
    match a with
    | ⟨0, _⟩ => show (n : ℕ) = 0 + n * (0 + 1); omega
    | ⟨1, _⟩ => show (i : ℕ) = 5 + (i - 5) * (0 + 1); omega
    | ⟨2, _⟩ => show (j : ℕ) = 5 + (j - 5) * (0 + 1); omega
  · rename_i h
    by_cases hi : 5 ≤ (i : ℕ) ∧ (i : ℕ) < 33
    · refine (pad_apply_of_not_inside _ _ _ _ _ _ _ _ (2 : Fin 3) ?_).trans ?_
      · show ¬(5 ≤ (j : ℕ) ∧ ((j : ℕ) - 5) % (0 + 1) = 0 ∧ ((j : ℕ) - 5) / (0 + 1) < 28)
        simp only [Nat.div_one, Nat.zero_add]
        omega
      · exact zero_word
    · refine (pad_apply_of_not_inside _ _ _ _ _ _ _ _ (1 : Fin 3) ?_).trans ?_
      · show ¬(5 ≤ (i : ℕ) ∧ ((i : ℕ) - 5) % (0 + 1) = 0 ∧ ((i : ℕ) - 5) / (0 + 1) < 28)
        simp only [Nat.div_one, Nat.zero_add]
        omega
      · exact zero_word

/-- The correlation is the sum over a window's positions of window times crop. -/
theorem corr_apply (w : FVec Ideal S8192x28x11x28x11 .f32) (t : FVec Ideal S8192x11x11 .f32) (n : Fin 8192) (c : Fin 1) (i j : Fin 28) :
    corr w t (ix4 n c i j) = ∑ u : Fin 11, ∑ v : Fin 11, w (ix5 n i u j v) * t (ix3 n u v) := by
  unfold corr
  pointwise

/-- The correlation at an index, as mathematics. -/
theorem corr_eq (a : FVec Ideal S8192x28x28 .f32) (n : Fin 8192) (c : Fin 1) (i j : Fin 28) :
    corr (windows0 (padded a)) (crop a) (ix4 n c i j) = Spec.cor (fun p q => a (ix3 n p q)) i j := by
  rw [corr_apply]
  unfold Spec.cor
  refine Finset.sum_congr rfl fun u _ => Finset.sum_congr rfl fun v _ => ?_
  rw [windows0_apply, padded_apply, crop_apply]

/-! ## The convolutions -/

/-- The first convolution at an index, as mathematics, `A` being what it is applied to. -/
theorem conv1_eq (W : FVec Ideal S32x1x5x5 .f32) (b : FVec Ideal S32 .f32) (a : FVec Ideal S8192x1x28x28 .f32) (n : Fin 8192)
    (A : Fin 1 → ℕ → ℕ → EReal) (hA : ∀ (c : Fin 1) (i j : Fin 28), a (ix4 n c i j) = A c i j) (o : Fin 32) (i j : Fin 24) :
    conv1 W b (windows1 a) (ix4 n o i j) = Spec.conv (fun o c u v => W (ix4 o c u v)) (fun o => b (ix1 o)) A o i j := by
  unfold conv1 Spec.conv
  refine congrArg₂ (· + ·) ?_ ?_
  · refine (transpose_apply _ _ _ _ (ix4 o n i j) fun a => ?_).trans ((RefSums.conv_dot dot_S32x1x5x5_S8192x1x24x5x24x5_S32x8192x24x24_123_135_0_024_n_n_wf _ _ _ _ _ _).trans ?_)
    · match a with
      | ⟨0, _⟩ => rfl
      | ⟨1, _⟩ => rfl
      | ⟨2, _⟩ => rfl
      | ⟨3, _⟩ => rfl
    · refine Finset.sum_congr rfl fun c _ => Finset.sum_congr rfl fun u _ => Finset.sum_congr rfl fun v _ => ?_
      rw [windows1_apply, hA]
  · pointwise

/-- The second convolution at an index, as mathematics, `A` being what it is applied to. -/
theorem conv2_eq (W : FVec Ideal S64x32x5x5 .f32) (b : FVec Ideal S64 .f32) (a : FVec Ideal S8192x32x12x12 .f32) (n : Fin 8192)
    (A : Fin 32 → ℕ → ℕ → EReal) (hA : ∀ (c : Fin 32) (i j : Fin 12), a (ix4 n c i j) = A c i j) (o : Fin 64) (i j : Fin 8) :
    conv2 W b (windows2 a) (ix4 n o i j) = Spec.conv (fun o c u v => W (ix4 o c u v)) (fun o => b (ix1 o)) A o i j := by
  unfold conv2 Spec.conv
  refine congrArg₂ (· + ·) ?_ ?_
  · refine (transpose_apply _ _ _ _ (ix4 o n i j) fun a => ?_).trans ((RefSums.conv_dot dot_S64x32x5x5_S8192x32x8x5x8x5_S64x8192x8x8_123_135_0_024_n_n_wf _ _ _ _ _ _).trans ?_)
    · match a with
      | ⟨0, _⟩ => rfl
      | ⟨1, _⟩ => rfl
      | ⟨2, _⟩ => rfl
      | ⟨3, _⟩ => rfl
    · refine Finset.sum_congr rfl fun c _ => Finset.sum_congr rfl fun u _ => Finset.sum_congr rfl fun v _ => ?_
      rw [windows2_apply, hA]
  · pointwise

/-- The third convolution at an index, as mathematics, `A` being what it is applied to. -/
theorem conv3_eq (W : FVec Ideal S10x64x3x3 .f32) (b : FVec Ideal S10 .f32) (a : FVec Ideal S8192x64x4x4 .f32) (n : Fin 8192)
    (A : Fin 64 → ℕ → ℕ → EReal) (hA : ∀ (c : Fin 64) (i j : Fin 4), a (ix4 n c i j) = A c i j) (o : Fin 10) (i j : Fin 2) :
    conv3 W b (windows3 a) (ix4 n o i j) = Spec.conv (fun o c u v => W (ix4 o c u v)) (fun o => b (ix1 o)) A o i j := by
  unfold conv3 Spec.conv
  refine congrArg₂ (· + ·) ?_ ?_
  · refine (transpose_apply _ _ _ _ (ix4 o n i j) fun a => ?_).trans ((RefSums.conv_dot dot_S10x64x3x3_S8192x64x2x3x2x3_S10x8192x2x2_123_135_0_024_n_n_wf _ _ _ _ _ _).trans ?_)
    · match a with
      | ⟨0, _⟩ => rfl
      | ⟨1, _⟩ => rfl
      | ⟨2, _⟩ => rfl
      | ⟨3, _⟩ => rfl
    · refine Finset.sum_congr rfl fun c _ => Finset.sum_congr rfl fun u _ => Finset.sum_congr rfl fun v _ => ?_
      rw [windows3_apply, hA]
  · pointwise

/-! ## The poolings -/

/-- The first positive part at an index. -/
theorem relu1_apply (h : FVec Ideal S8192x32x24x24 .f32) (n : Fin 8192) (c : Fin 32) (i j : Fin 24) :
    relu1 h (ix4 n c i j) = max (h (ix4 n c i j)) 0 := by
  unfold relu1
  pointwise

/-- The second positive part at an index. -/
theorem relu2_apply (h : FVec Ideal S8192x64x8x8 .f32) (n : Fin 8192) (c : Fin 64) (i j : Fin 8) :
    relu2 h (ix4 n c i j) = max (h (ix4 n c i j)) 0 := by
  unfold relu2
  pointwise

/-- The first pooling at an index, as mathematics. -/
theorem pool1_eq (h : FVec Ideal S8192x32x24x24 .f32) (n : Fin 8192) (A : Fin 32 → ℕ → ℕ → EReal)
    (hA : ∀ (c : Fin 32) (i j : Fin 24), h (ix4 n c i j) = A c i j) (c : Fin 32) (i j : Fin 12) :
    pool1 (relu1 h) (ix4 n c i j) = Spec.pool (Spec.relu A) c i j := by
  unfold pool1
  refine (RefSums.max_square _ _ _ _ Spec.negInf rfl n c i j).trans ?_
  simp only [relu1_apply, hA]
  rfl

/-- The second pooling at an index, as mathematics. -/
theorem pool2_eq (h : FVec Ideal S8192x64x8x8 .f32) (n : Fin 8192) (A : Fin 64 → ℕ → ℕ → EReal)
    (hA : ∀ (c : Fin 64) (i j : Fin 8), h (ix4 n c i j) = A c i j) (c : Fin 64) (i j : Fin 4) :
    pool2 (relu2 h) (ix4 n c i j) = Spec.pool (Spec.relu A) c i j := by
  unfold pool2
  refine (RefSums.max_square _ _ _ _ Spec.negInf rfl n c i j).trans ?_
  simp only [relu2_apply, hA]
  rfl

/-! ## The mean and the logarithm of the softmax -/

/-- The mean at an index, as mathematics. -/
theorem gap_eq (h : FVec Ideal S8192x10x2x2 .f32) (n : Fin 8192) (A : Fin 10 → ℕ → ℕ → EReal)
    (hA : ∀ (c : Fin 10) (i j : Fin 2), h (ix4 n c i j) = A c i j) (c : Fin 10) :
    gap h (ix2 n c) = Spec.mean4 (Spec.relu A) c := by
  unfold Spec.mean4 Spec.relu
  simp only [← hA]
  unfold gap
  pointwise

/-- The shifted numbers at an index. -/
theorem shift_apply (g : FVec Ideal S8192x10 .f32) (n : Fin 8192) (c : Fin 10) :
    shift g (ix2 n c) = g (ix2 n c) - max (Ideal.ofBits FTy.f32 0xFF800000#32) (Finset.fold max (Ideal.ofBits FTy.f32 0xFF800000#32) (fun x : Fin 10 => g (ix2 n x)) Finset.univ) := by
  unfold shift
  pointwise

/-- The last subtraction at an index. -/
theorem logsm_apply (e : FVec Ideal S8192x10 .f32) (n : Fin 8192) (c : Fin 10) :
    logsm e (ix2 n c) = e (ix2 n c) - Ideal.log (∑ x : Fin 10, Ideal.exp (e (ix2 n x))) := by
  unfold logsm
  pointwise

/-- The logarithm of the softmax at an index, as mathematics. -/
theorem softmax_eq (g : FVec Ideal S8192x10 .f32) (n : Fin 8192) (a : Fin 10 → EReal) (ha : ∀ c, g (ix2 n c) = a c) (c : Fin 10) :
    logsm (shift g) (ix2 n c) = Spec.logSoftmax a c := by
  rw [logsm_apply]
  simp only [shift_apply, ha]
  rw [Spec.negInf, max_bot_left]
  rfl

/-! ## The whole reference -/

/-- The reference's result at a sample and a class is the network at that sample. -/
theorem value_apply (x : FVec Ideal S8192x3x28x28 .f32) (W1 : FVec Ideal S32x1x5x5 .f32) (b1 : FVec Ideal S32 .f32)
    (W2 : FVec Ideal S64x32x5x5 .f32) (b2 : FVec Ideal S64 .f32) (W3 : FVec Ideal S10x64x3x3 .f32) (b3 : FVec Ideal S10 .f32)
    (n : Fin 8192) (k : Fin 10) :
    value x W1 b1 W2 b2 W3 b3 (ix2 n k)
    = Spec.net (fun p q => x (ix4 n (2 : Fin 3) p q)) (fun o c u v => W1 (ix4 o c u v)) (fun o => b1 (ix1 o))
        (fun o c u v => W2 (ix4 o c u v)) (fun o => b2 (ix1 o)) (fun o c u v => W3 (ix4 o c u v)) (fun o => b3 (ix1 o)) k := by
  unfold value Spec.net
  refine softmax_eq _ _ _ (gap_eq _ _ _ (conv3_eq _ _ _ _ _ (pool2_eq _ _ _ (conv2_eq _ _ _ _ _ (pool1_eq _ _ _ (conv1_eq _ _ _ _ _ fun c i j => ?_)))))) k
  rw [corr_eq]
  simp only [img_apply]

end Cert.ReferenceIdeal.Layers

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.RefRead
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference leaves its arguments unchanged and every counter at zero. -/
theorem frame_ref : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Given the same arguments, the kernel and the reference end with the same result: the network at each sample. -/
theorem algebraic : Cert.algebraic_KernelIdeal_ReferenceIdeal := by
  intro m g m' g' _ hagree
  refine ⟨fun c => (fun i => Cert.KernelIdeal.Block.out m c (i 0) (i 1)), Cert.KernelIdeal.Block.run m g, ?_⟩
  refine (θ_run Cert.ReferenceIdeal.defs _ _).mono (fun _ h c => ⟨(h c).1.trans ?_, (h c).2⟩) (Cert.ReferenceIdeal.Value.run (F := Ideal) m' g')
  obtain ⟨h0, h1, h2, h3, h4, h5, h6⟩ := hagree c
  rw [Cert.ReferenceIdeal.Layers.value_eq, h0, h1, h2, h3, h4, h5, h6]
  funext i
  refine (congrArg _ (show i = (ix2 (i 0 : Fin 8192) (i 1 : Fin 10) : Cert.ReferenceIdeal.S8192x10.Idx) from funext fun a => by match a with | ⟨0, _⟩ => rfl | ⟨1, _⟩ => rfl)).trans ?_
  exact Cert.ReferenceIdeal.Layers.value_apply _ _ _ _ _ _ _ (i 0) (i 1)

/-- Everything that is claimed. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_ref, trivial, algebraic⟩

end Cert.Proof

end
